-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_lattice [hPre_lattice : Cert.Pre_lattice.Facts] (m : (ℓ : Loc Cert.KernelIdeal.nD Cert.KernelIdeal.τ Cert.KernelIdeal.sig) → Buf (Elt Ideal) ℓ) : Prop :=
  ∀ c : Dev Cert.KernelIdeal.nD,
    (Cert.Pre_lattice.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_lattice [hPre_lattice : Cert.Pre_lattice.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lattice.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_lattice [hKernelIdeal : Cert.KernelIdeal.Facts] [hPre_lattice : Cert.Pre_lattice.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_lattice m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_lattice [hReferenceIdeal : Cert.ReferenceIdeal.Facts] [hPre_lattice : Cert.Pre_lattice.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_lattice m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_lattice [hKernelIdeal : Cert.KernelIdeal.Facts] [hReferenceIdeal : Cert.ReferenceIdeal.Facts] [hPre_lattice : Cert.Pre_lattice.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_lattice m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_lattice : Cert.Pre_lattice.Facts),
    quiescent_Kernel (hKernel := hKernel)
    ∧ quiescent_KernelIdeal (hKernelIdeal := hKernelIdeal)
    ∧ quiescent_KernelIdeal_pre_lattice (hKernelIdeal := hKernelIdeal) (hPre_lattice := hPre_lattice)
    ∧ quiescent_ReferenceIdeal (hReferenceIdeal := hReferenceIdeal)
    ∧ quiescent_ReferenceIdeal_pre_lattice (hReferenceIdeal := hReferenceIdeal) (hPre_lattice := hPre_lattice)
    ∧ preserves_Kernel_KernelIdeal
    ∧ algebraic_KernelIdeal_ReferenceIdeal_pre_lattice (hKernelIdeal := hKernelIdeal) (hReferenceIdeal := hReferenceIdeal) (hPre_lattice := hPre_lattice)
-- ==== Pre_lattice.lean ====
abbrev S1 : Shape := ⟨1, ![1]⟩
abbrev S400000 : Shape := ⟨1, ![400000]⟩
abbrev S100000x2 : Shape := ⟨2, ![100000, 2]⟩
abbrev S199350 : Shape := ⟨1, ![199350]⟩
abbrev S199350x2 : Shape := ⟨2, ![199350, 2]⟩
abbrev S1296 : Shape := ⟨1, ![1296]⟩
abbrev S100000 : Shape := ⟨1, ![100000]⟩
abbrev S250x400 : Shape := ⟨2, ![250, 400]⟩
abbrev S250x399 : Shape := ⟨2, ![250, 399]⟩
abbrev S99750 : Shape := ⟨1, ![99750]⟩
abbrev S249x400 : Shape := ⟨2, ![249, 400]⟩
abbrev S99600 : Shape := ⟨1, ![99600]⟩
abbrev S248x1 : Shape := ⟨2, ![248, 1]⟩
abbrev S248 : Shape := ⟨1, ![248]⟩
abbrev S248x2 : Shape := ⟨2, ![248, 2]⟩
abbrev S1x400 : Shape := ⟨2, ![1, 400]⟩
abbrev S400 : Shape := ⟨1, ![400]⟩
abbrev S496 : Shape := ⟨1, ![496]⟩
abbrev S199350x1 : Shape := ⟨2, ![199350, 1]⟩
abbrev S399996 : Shape := ⟨1, ![399996]⟩

class Facts : Prop where
  shapeCasts_S100000_S250x400 : S100000.ShapeCasts S250x400
  slices_S250x400_S250x399_0_0 : S250x400.Slices ![0, 0] S250x399
  shapeCasts_S250x399_S99750 : S250x399.ShapeCasts S99750
  slices_S250x400_S249x400_0_0 : S250x400.Slices ![0, 0] S249x400
  shapeCasts_S249x400_S99600 : S249x400.ShapeCasts S99600
  concatenates_S99750_S99600_S199350_d0 : Shape.Concatenates [S99750, S99600] S199350 0
  slices_S250x400_S250x399_0_1 : S250x400.Slices ![0, 1] S250x399
  slices_S250x400_S249x400_1_0 : S250x400.Slices ![1, 0] S249x400
  slices_S250x400_S248x1_1_0 : S250x400.Slices ![1, 0] S248x1
  shapeCasts_S248x1_S248 : S248x1.ShapeCasts S248
  slices_S250x400_S248x1_1_399 : S250x400.Slices ![1, 399] S248x1
  bcast_S248_S248x1_0 : S248.BroadcastsInDim S248x1 (![0] : Fin 1 → Fin S248x1.rank)
  concatenates_S248x1_S248x1_S248x2_d1 : Shape.Concatenates [S248x1, S248x1] S248x2 1
  slices_S250x400_S1x400_0_0 : S250x400.Slices ![0, 0] S1x400
  shapeCasts_S1x400_S400 : S1x400.ShapeCasts S400
  shapeCasts_S248x2_S496 : S248x2.ShapeCasts S496
  slices_S250x400_S1x400_249_0 : S250x400.Slices ![249, 0] S1x400
  concatenates_S400_S496_S400_S1296_d0 : Shape.Concatenates [S400, S496, S400] S1296 0
  slices_S199350x2_S199350x1_0_0 : S199350x2.Slices ![0, 0] S199350x1
  shapeCasts_S199350x1_S199350 : S199350x1.ShapeCasts S199350
  slices_S199350x2_S199350x1_0_1 : S199350x2.Slices ![0, 1] S199350x1
  concatenates_S199350_S199350_S1296_S399996_d0 : Shape.Concatenates [S199350, S199350, S1296] S399996 0

variable [Facts]

def fn_part1 {F : FTy → Type} [FloatOps F] (main_arg5 : IVec S199350x2 32) (main_arg7 : IVec S1296 32) (main_v6 : IVec S199350 32) (main_v11 : IVec S199350 32) (main_v20 : IVec S400 32) (main_v21 : IVec S496 32) (main_v23 : IVec S400 32) : IVec S399996 1 :=
  let main_v24 : IVec S1296 32 := concatenate S1296 0 [⟨S400, main_v20⟩, ⟨S496, main_v21⟩, ⟨S400, main_v23⟩] concatenates_S400_S496_S400_S1296_d0
  let main_v25 : IVec S199350x1 32 := (extractStridedSlice S199350x1 ![0, 0] · slices_S199350x2_S199350x1_0_0) main_arg5
  let main_v26 : IVec S199350 32 := shapeCast S199350 main_v25 shapeCasts_S199350x1_S199350
  let main_v27 : IVec S199350 1 := cmpi .eq main_v26 main_v6
  let main_v28 : IVec S199350x1 32 := (extractStridedSlice S199350x1 ![0, 1] · slices_S199350x2_S199350x1_0_1) main_arg5
  let main_v29 : IVec S199350 32 := shapeCast S199350 main_v28 shapeCasts_S199350x1_S199350
  let main_v30 : IVec S199350 1 := cmpi .eq main_v29 main_v11
  let main_v31 : IVec S1296 1 := cmpi .eq main_arg7 main_v24
  let main_v32 : IVec S399996 1 := concatenate S399996 0 [⟨S199350, main_v27⟩, ⟨S199350, main_v30⟩, ⟨S1296, main_v31⟩] concatenates_S199350_S199350_S1296_S399996_d0
  main_v32

def fn {F : FTy → Type} [FloatOps F] (main_arg0 : FVec F S1 .f32) (main_arg1 : FVec F S400000 .f32) (main_arg2 : FVec F S100000x2 .f32) (main_arg3 : FVec F S199350 .f32) (main_arg4 : FVec F S100000x2 .f32) (main_arg5 : IVec S199350x2 32) (main_arg6 : FVec F S199350 .f32) (main_arg7 : IVec S1296 32) : IVec S399996 1 :=
  let main_v0 : IVec S100000 32 := iotaInDim S100000 32 0
  let main_v1 : IVec S250x400 32 := shapeCast S250x400 main_v0 shapeCasts_S100000_S250x400
  let main_v2 : IVec S250x399 32 := (extractStridedSlice S250x399 ![0, 0] · slices_S250x400_S250x399_0_0) main_v1
  let main_v3 : IVec S99750 32 := shapeCast S99750 main_v2 shapeCasts_S250x399_S99750
  let main_v4 : IVec S249x400 32 := (extractStridedSlice S249x400 ![0, 0] · slices_S250x400_S249x400_0_0) main_v1
  let main_v5 : IVec S99600 32 := shapeCast S99600 main_v4 shapeCasts_S249x400_S99600
  let main_v6 : IVec S199350 32 := (fun a b => concatenate S199350 0 [⟨S99750, a⟩, ⟨S99600, b⟩] concatenates_S99750_S99600_S199350_d0) main_v3 main_v5
  let main_v7 : IVec S250x399 32 := (extractStridedSlice S250x399 ![0, 1] · slices_S250x400_S250x399_0_1) main_v1
  let main_v8 : IVec S99750 32 := shapeCast S99750 main_v7 shapeCasts_S250x399_S99750
  let main_v9 : IVec S249x400 32 := (extractStridedSlice S249x400 ![1, 0] · slices_S250x400_S249x400_1_0) main_v1
  let main_v10 : IVec S99600 32 := shapeCast S99600 main_v9 shapeCasts_S249x400_S99600
  let main_v11 : IVec S199350 32 := (fun a b => concatenate S199350 0 [⟨S99750, a⟩, ⟨S99600, b⟩] concatenates_S99750_S99600_S199350_d0) main_v8 main_v10
  let main_v12 : IVec S248x1 32 := (extractStridedSlice S248x1 ![1, 0] · slices_S250x400_S248x1_1_0) main_v1
  let main_v13 : IVec S248 32 := shapeCast S248 main_v12 shapeCasts_S248x1_S248
  let main_v14 : IVec S248x1 32 := (extractStridedSlice S248x1 ![1, 399] · slices_S250x400_S248x1_1_399) main_v1
  let main_v15 : IVec S248 32 := shapeCast S248 main_v14 shapeCasts_S248x1_S248
  let main_v16 : IVec S248x1 32 := broadcastInDim S248x1 ![0] bcast_S248_S248x1_0 main_v13
  let main_v17 : IVec S248x1 32 := broadcastInDim S248x1 ![0] bcast_S248_S248x1_0 main_v15
  let main_v18 : IVec S248x2 32 := (fun a b => concatenate S248x2 1 [⟨S248x1, a⟩, ⟨S248x1, b⟩] concatenates_S248x1_S248x1_S248x2_d1) main_v16 main_v17
  let main_v19 : IVec S1x400 32 := (extractStridedSlice S1x400 ![0, 0] · slices_S250x400_S1x400_0_0) main_v1
  let main_v20 : IVec S400 32 := shapeCast S400 main_v19 shapeCasts_S1x400_S400
  let main_v21 : IVec S496 32 := shapeCast S496 main_v18 shapeCasts_S248x2_S496
  let main_v22 : IVec S1x400 32 := (extractStridedSlice S1x400 ![249, 0] · slices_S250x400_S1x400_249_0) main_v1
  let main_v23 : IVec S400 32 := shapeCast S400 main_v22 shapeCasts_S1x400_S400
  fn_part1 (F := F) main_arg5 main_arg7 main_v6 main_v11 main_v20 main_v21 main_v23
-- ==== Kernel.lean ====
abbrev S1 : Shape := ⟨1, ![1]⟩
abbrev S400000 : Shape := ⟨1, ![400000]⟩
abbrev S100000x2 : Shape := ⟨2, ![100000, 2]⟩
abbrev S199350 : Shape := ⟨1, ![199350]⟩
abbrev S199350x2 : Shape := ⟨2, ![199350, 2]⟩
abbrev S1296 : Shape := ⟨1, ![1296]⟩
abbrev S200000 : Shape := ⟨1, ![200000]⟩
abbrev S25x10x800 : Shape := ⟨3, ![25, 10, 800]⟩
abbrev S99750 : Shape := ⟨1, ![99750]⟩
abbrev S25x10x399 : Shape := ⟨3, ![25, 10, 399]⟩
abbrev S100000 : Shape := ⟨1, ![100000]⟩
abbrev S25x10x400 : Shape := ⟨3, ![25, 10, 400]⟩
abbrev S2x25x10x800 : Shape := ⟨4, ![2, 25, 10, 800]⟩
abbrev S1x10x800 : Shape := ⟨3, ![1, 10, 800]⟩
abbrev S1x10x399 : Shape := ⟨3, ![1, 10, 399]⟩
abbrev S1x10x400 : Shape := ⟨3, ![1, 10, 400]⟩
abbrev S2x1x10x800 : Shape := ⟨4, ![2, 1, 10, 800]⟩
abbrev S1x1x800 : Shape := ⟨3, ![1, 1, 800]⟩
abbrev S1x800 : Shape := ⟨2, ![1, 800]⟩
abbrev S10x800 : Shape := ⟨2, ![10, 800]⟩
abbrev S12x800 : Shape := ⟨2, ![12, 800]⟩
abbrev S12x400x2 : Shape := ⟨3, ![12, 400, 2]⟩
abbrev S12x400x1 : Shape := ⟨3, ![12, 400, 1]⟩
abbrev S12x400 : Shape := ⟨2, ![12, 400]⟩
abbrev S10x400 : Shape := ⟨2, ![10, 400]⟩
abbrev S10x399 : Shape := ⟨2, ![10, 399]⟩
abbrev S10x1 : Shape := ⟨2, ![10, 1]⟩
abbrev S11x400 : Shape := ⟨2, ![11, 400]⟩
abbrev S1x1x400 : Shape := ⟨3, ![1, 1, 400]⟩
abbrev S1x400 : Shape := ⟨2, ![1, 400]⟩
abbrev S10x400x1 : Shape := ⟨3, ![10, 400, 1]⟩
abbrev S10x400x2 : Shape := ⟨3, ![10, 400, 2]⟩
abbrev S1x1x10x800 : Shape := ⟨4, ![1, 1, 10, 800]⟩

abbrev nBuf : Space → Nat
  | .hbm => 24
  | .vmem => 26
  | .smem => 0
  | _ => 0

abbrev bufTy : (tb : Table) → Fin (tcTables nBuf tb) → BufTy
  | .hbm, ⟨0, _⟩ => ⟨S1, .f32⟩
  | .hbm, ⟨1, _⟩ => ⟨S400000, .f32⟩
  | .hbm, ⟨2, _⟩ => ⟨S100000x2, .f32⟩
  | .hbm, ⟨3, _⟩ => ⟨S199350, .f32⟩
  | .hbm, ⟨4, _⟩ => ⟨S100000x2, .f32⟩
  | .hbm, ⟨5, _⟩ => ⟨S199350x2, .i32⟩
  | .hbm, ⟨6, _⟩ => ⟨S199350, .f32⟩
  | .hbm, ⟨7, _⟩ => ⟨S1296, .i32⟩
  | .hbm, ⟨8, _⟩ => ⟨S200000, .f32⟩
  | .hbm, ⟨9, _⟩ => ⟨S25x10x800, .f32⟩
  | .hbm, ⟨10, _⟩ => ⟨S200000, .f32⟩
  | .hbm, ⟨11, _⟩ => ⟨S25x10x800, .f32⟩
  | .hbm, ⟨12, _⟩ => ⟨S25x10x800, .f32⟩
  | .hbm, ⟨13, _⟩ => ⟨S25x10x800, .f32⟩
  | .hbm, ⟨14, _⟩ => ⟨S99750, .f32⟩
  | .hbm, ⟨15, _⟩ => ⟨S25x10x399, .f32⟩
  | .hbm, ⟨16, _⟩ => ⟨S99750, .f32⟩
  | .hbm, ⟨17, _⟩ => ⟨S25x10x399, .f32⟩
  | .hbm, ⟨18, _⟩ => ⟨S100000, .f32⟩
  | .hbm, ⟨19, _⟩ => ⟨S25x10x400, .f32⟩
  | .hbm, ⟨20, _⟩ => ⟨S100000, .f32⟩
  | .hbm, ⟨21, _⟩ => ⟨S25x10x400, .f32⟩
  | .hbm, ⟨22, _⟩ => ⟨S2x25x10x800, .f32⟩
  | .hbm, ⟨23, _⟩ => ⟨S400000, .f32⟩
  | .local _ .vmem, ⟨0, _⟩ => ⟨S1x10x800, .f32⟩
  | .local _ .vmem, ⟨1, _⟩ => ⟨S1x10x800, .f32⟩
  | .local _ .vmem, ⟨2, _⟩ => ⟨S1x10x800, .f32⟩
  | .local _ .vmem, ⟨3, _⟩ => ⟨S1x10x800, .f32⟩
  | .local _ .vmem, ⟨4, _⟩ => ⟨S1x10x800, .f32⟩
  | .local _ .vmem, ⟨5, _⟩ => ⟨S1x10x800, .f32⟩
  | .local _ .vmem, ⟨6, _⟩ => ⟨S1x10x800, .f32⟩
  | .local _ .vmem, ⟨7, _⟩ => ⟨S1x10x800, .f32⟩
  | .local _ .vmem, ⟨8, _⟩ => ⟨S1x10x800, .f32⟩
  | .local _ .vmem, ⟨9, _⟩ => ⟨S1x10x800, .f32⟩
  | .local _ .vmem, ⟨10, _⟩ => ⟨S1x10x800, .f32⟩
  | .local _ .vmem, ⟨11, _⟩ => ⟨S1x10x800, .f32⟩
  | .local _ .vmem, ⟨12, _⟩ => ⟨S1x10x399, .f32⟩
  | .local _ .vmem, ⟨13, _⟩ => ⟨S1x10x399, .f32⟩
  | .local _ .vmem, ⟨14, _⟩ => ⟨S1x10x399, .f32⟩
  | .local _ .vmem, ⟨15, _⟩ => ⟨S1x10x399, .f32⟩
  | .local _ .vmem, ⟨16, _⟩ => ⟨S1x10x400, .f32⟩
  | .local _ .vmem, ⟨17, _⟩ => ⟨S1x10x400, .f32⟩
  | .local _ .vmem, ⟨18, _⟩ => ⟨S1x10x400, .f32⟩
  | .local _ .vmem, ⟨19, _⟩ => ⟨S1x10x400, .f32⟩
  | .local _ .vmem, ⟨20, _⟩ => ⟨S1x10x400, .f32⟩
  | .local _ .vmem, ⟨21, _⟩ => ⟨S1x10x400, .f32⟩
  | .local _ .vmem, ⟨22, _⟩ => ⟨S1x10x400, .f32⟩
  | .local _ .vmem, ⟨23, _⟩ => ⟨S1x10x400, .f32⟩
  | .local _ .vmem, ⟨24, _⟩ => ⟨S2x1x10x800, .f32⟩
  | .local _ .vmem, ⟨25, _⟩ => ⟨S2x1x10x800, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 3 → Nat :=
  let arg0 : BitVec 32 := BitVec.ofNat 32 (i 0).val
  let c1_i32 : BitVec 32 := 1#32
  let v0 : BitVec 32 := Scalar.addi arg0 c1_i32
  let c24_i32 : BitVec 32 := 24#32
  let v1 : BitVec 32 := Scalar.minsi v0 c24_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c1_i32 : BitVec 32 := 1#32
  let v0 : BitVec 32 := Scalar.addi arg0 c1_i32
  let c24_i32 : BitVec 32 := 24#32
  let v1 : BitVec 32 := Scalar.minsi v0 c24_i32
  let c0_i32 : BitVec 32 := 0#32
  let c0_i32_0 : BitVec 32 := 0#32
  let c0_i32_1 : BitVec 32 := 0#32
  ![v1.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c1_i32 : BitVec 32 := 1#32
  let v0 : BitVec 32 := Scalar.addi arg0 c1_i32
  let c24_i32 : BitVec 32 := 24#32
  let v1 : BitVec 32 := Scalar.minsi v0 c24_i32
  let c0_i32 : BitVec 32 := 0#32
  let c0_i32_0 : BitVec 32 := 0#32
  let c0_i32_1 : BitVec 32 := 0#32
  ![v1.toNat, c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x10x800 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x10x800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x10x800 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x10x800 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x10x800 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x10x800 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x10x399 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x10x399 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x10x400 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x10x400 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x10x400 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x10x400 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S2x1x10x800 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceIdeal.lean ====
abbrev S1 : Shape := ⟨1, ![1]⟩
abbrev S400000 : Shape := ⟨1, ![400000]⟩
abbrev S100000x2 : Shape := ⟨2, ![100000, 2]⟩
abbrev S199350 : Shape := ⟨1, ![199350]⟩
abbrev S199350x2 : Shape := ⟨2, ![199350, 2]⟩
abbrev S1296 : Shape := ⟨1, ![1296]⟩
abbrev S200000 : Shape := ⟨1, ![200000]⟩
abbrev S199350x1 : Shape := ⟨2, ![199350, 1]⟩
abbrev S_ : Shape := ⟨0, ![]⟩
abbrev S1x1 : Shape := ⟨2, ![1, 1]⟩
abbrev S1296x1 : Shape := ⟨2, ![1296, 1]⟩
abbrev S1296x2 : Shape := ⟨2, ![1296, 2]⟩

abbrev nBuf : Space → Nat
  | .hbm => 129
  | .vmem => 0
  | .smem => 0
  | _ => 0

abbrev hbmTy0_0 (i : Nat) : BufTy := match i % 128 with
  | 0 => ⟨S1, .f32⟩
  | 1 => ⟨S400000, .f32⟩
  | 2 => ⟨S100000x2, .f32⟩
  | 3 => ⟨S199350, .f32⟩
  | 4 => ⟨S100000x2, .f32⟩
  | 5 => ⟨S199350x2, .i32⟩
  | 6 => ⟨S199350, .f32⟩
  | 7 => ⟨S1296, .i32⟩
  | 8 => ⟨S200000, .f32⟩
  | 9 => ⟨S100000x2, .f32⟩
  | 10 => ⟨S200000, .f32⟩
  | 11 => ⟨S100000x2, .f32⟩
  | 12 => ⟨S199350x1, .i32⟩
  | 13 => ⟨S199350, .i32⟩
  | 14 => ⟨S199350x1, .i32⟩
  | 15 => ⟨S199350, .i32⟩
  | 16 => ⟨S_, .i32⟩
  | 17 => ⟨S199350, .i32⟩
  | 18 => ⟨S199350, .i1⟩
  | 19 => ⟨S_, .i32⟩
  | 20 => ⟨S199350, .i32⟩
  | 21 => ⟨S199350, .i32⟩
  | 22 => ⟨S199350, .i32⟩
  | 23 => ⟨S199350x1, .i32⟩
  | 24 => ⟨S1, .i32⟩
  | 25 => ⟨S_, .i32⟩
  | 26 => ⟨S199350x1, .i32⟩
  | 27 => ⟨S199350x1, .i1⟩
  | 28 => ⟨S1x1, .i32⟩
  | 29 => ⟨S199350x1, .i32⟩
  | 30 => ⟨S199350x1, .i1⟩
  | 31 => ⟨S199350x1, .i1⟩
  | 32 => ⟨S_, .i1⟩
  | 33 => ⟨S199350, .i1⟩
  | 34 => ⟨S199350x2, .f32⟩
  | 35 => ⟨S199350x2, .i1⟩
  | 36 => ⟨S_, .f32⟩
  | 37 => ⟨S199350x2, .f32⟩
  | 38 => ⟨S199350x2, .f32⟩
  | 39 => ⟨S_, .i32⟩
  | 40 => ⟨S199350, .i32⟩
  | 41 => ⟨S199350, .i1⟩
  | 42 => ⟨S_, .i32⟩
  | 43 => ⟨S199350, .i32⟩
  | 44 => ⟨S199350, .i32⟩
  | 45 => ⟨S199350, .i32⟩
  | 46 => ⟨S199350x1, .i32⟩
  | 47 => ⟨S1, .i32⟩
  | 48 => ⟨S_, .i32⟩
  | 49 => ⟨S199350x1, .i32⟩
  | 50 => ⟨S199350x1, .i1⟩
  | 51 => ⟨S1x1, .i32⟩
  | 52 => ⟨S199350x1, .i32⟩
  | 53 => ⟨S199350x1, .i1⟩
  | 54 => ⟨S199350x1, .i1⟩
  | 55 => ⟨S_, .i1⟩
  | 56 => ⟨S199350, .i1⟩
  | 57 => ⟨S199350x2, .f32⟩
  | 58 => ⟨S199350x2, .i1⟩
  | 59 => ⟨S_, .f32⟩
  | 60 => ⟨S199350x2, .f32⟩
  | 61 => ⟨S199350x2, .f32⟩
  | 62 => ⟨S199350x2, .f32⟩
  | 63 => ⟨S199350x2, .f32⟩
  | 64 => ⟨S_, .f32⟩
  | 65 => ⟨S199350, .f32⟩
  | 66 => ⟨S199350, .f32⟩
  | 67 => ⟨S_, .f32⟩
  | 68 => ⟨S199350, .f32⟩
  | 69 => ⟨S199350, .f32⟩
  | 70 => ⟨S199350x1, .f32⟩
  | 71 => ⟨S199350x2, .f32⟩
  | 72 => ⟨S199350x2, .f32⟩
  | 73 => ⟨S199350, .f32⟩
  | 74 => ⟨S199350x1, .f32⟩
  | 75 => ⟨S199350x1, .f32⟩
  | 76 => ⟨S199350x1, .f32⟩
  | 77 => ⟨S199350x2, .f32⟩
  | 78 => ⟨S199350x2, .f32⟩
  | 79 => ⟨S_, .f32⟩
  | 80 => ⟨S100000x2, .f32⟩
  | 81 => ⟨S_, .i32⟩
  | 82 => ⟨S199350, .i32⟩
  | 83 => ⟨S199350, .i1⟩
  | 84 => ⟨S_, .i32⟩
  | 85 => ⟨S199350, .i32⟩
  | 86 => ⟨S199350, .i32⟩
  | 87 => ⟨S199350, .i32⟩
  | 88 => ⟨S199350x1, .i32⟩
  | 89 => ⟨S100000x2, .f32⟩
  | 90 => ⟨S199350x2, .f32⟩
  | 91 => ⟨S_, .i32⟩
  | 92 => ⟨S199350, .i32⟩
  | 93 => ⟨S199350, .i1⟩
  | 94 => ⟨S_, .i32⟩
  | 95 => ⟨S199350, .i32⟩
  | 96 => ⟨S199350, .i32⟩
  | 97 => ⟨S199350, .i32⟩
  | 98 => ⟨S199350x1, .i32⟩
  | 99 => ⟨S100000x2, .f32⟩
  | 100 => ⟨S100000x2, .f32⟩
  | 101 => ⟨S100000x2, .f32⟩
  | 102 => ⟨S100000x2, .f32⟩
  | 103 => ⟨S100000x2, .f32⟩
  | 104 => ⟨S_, .i32⟩
  | 105 => ⟨S1296, .i32⟩
  | 106 => ⟨S1296, .i1⟩
  | 107 => ⟨S_, .i32⟩
  | 108 => ⟨S1296, .i32⟩
  | 109 => ⟨S1296, .i32⟩
  | 110 => ⟨S1296, .i32⟩
  | 111 => ⟨S1296x1, .i32⟩
  | 112 => ⟨S_, .f32⟩
  | 113 => ⟨S1296x2, .f32⟩
  | 114 => ⟨S100000x2, .f32⟩
  | 115 => ⟨S_, .i32⟩
  | 116 => ⟨S1296, .i32⟩
  | 117 => ⟨S1296, .i1⟩
  | 118 => ⟨S_, .i32⟩
  | 119 => ⟨S1296, .i32⟩
  | 120 => ⟨S1296, .i32⟩
  | 121 => ⟨S1296, .i32⟩
  | 122 => ⟨S1296x1, .i32⟩
  | 123 => ⟨S_, .f32⟩
  | 124 => ⟨S1296x2, .f32⟩
  | 125 => ⟨S100000x2, .f32⟩
  | 126 => ⟨S200000, .f32⟩
  | 127 => ⟨S200000, .f32⟩
  | _ => ⟨S1, .f32⟩

abbrev hbmTy0_1 (i : Nat) : BufTy := match i % 128 with
  | 0 => ⟨S400000, .f32⟩
  | _ => ⟨S1, .f32⟩

abbrev hbmTy (i : Nat) : BufTy := match i / 128 with
  | 0 => hbmTy0_0 i
  | 1 => hbmTy0_1 i
  | _ => ⟨S1, .f32⟩

abbrev bufTy : (tb : Table) → Fin (tcTables nBuf tb) → BufTy
  | .hbm, ⟨i, _⟩ => hbmTy i
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v8 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v9 : Ref sig .tc := ⟨.hbm, 61, rfl⟩
abbrev main_v10 : Ref sig .tc := ⟨.hbm, 62, rfl⟩
abbrev main_call2_v0 : Ref sig .tc := ⟨.hbm, 63, rfl⟩
abbrev main_call2_cst : Ref sig .tc := ⟨.hbm, 64, rfl⟩
abbrev main_call2_v1 : Ref sig .tc := ⟨.hbm, 65, rfl⟩
abbrev main_v11 : Ref sig .tc := ⟨.hbm, 66, rfl⟩
abbrev main_cst : Ref sig .tc := ⟨.hbm, 67, rfl⟩
abbrev main_v12 : Ref sig .tc := ⟨.hbm, 68, rfl⟩
abbrev main_v13 : Ref sig .tc := ⟨.hbm, 69, rfl⟩
abbrev main_v14 : Ref sig .tc := ⟨.hbm, 70, rfl⟩
abbrev main_v15 : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_cst_0 : Ref sig .tc := ⟨.hbm, 79, rfl⟩
abbrev main_v23 : Ref sig .tc := ⟨.hbm, 80, rfl⟩
abbrev main_c : Ref sig .tc := ⟨.hbm, 81, rfl⟩
abbrev main_v24 : Ref sig .tc := ⟨.hbm, 82, rfl⟩
abbrev main_v25 : Ref sig .tc := ⟨.hbm, 83, rfl⟩
abbrev main_c_1 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_c_2 : Ref sig .tc := ⟨.hbm, 91, rfl⟩
abbrev main_v32 : Ref sig .tc := ⟨.hbm, 92, rfl⟩
abbrev main_v33 : Ref sig .tc := ⟨.hbm, 93, rfl⟩
abbrev main_c_3 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_v38 : Ref sig .tc := ⟨.hbm, 99, rfl⟩
abbrev main_v39 : Ref sig .tc := ⟨.hbm, 100, rfl⟩
abbrev main_v40 : Ref sig .tc := ⟨.hbm, 101, rfl⟩
abbrev main_v41 : Ref sig .tc := ⟨.hbm, 102, rfl⟩
abbrev main_v42 : Ref sig .tc := ⟨.hbm, 103, rfl⟩
abbrev main_c_4 : Ref sig .tc := ⟨.hbm, 104, rfl⟩
abbrev main_v43 : Ref sig .tc := ⟨.hbm, 105, rfl⟩
abbrev main_v44 : Ref sig .tc := ⟨.hbm, 106, rfl⟩
abbrev main_c_5 : Ref sig .tc := ⟨.hbm, 107, rfl⟩
abbrev main_v45 : Ref sig .tc := ⟨.hbm, 108, rfl⟩
abbrev main_v46 : Ref sig .tc := ⟨.hbm, 109, rfl⟩
abbrev main_v47 : Ref sig .tc := ⟨.hbm, 110, rfl⟩
abbrev main_v48 : Ref sig .tc := ⟨.hbm, 111, rfl⟩
abbrev main_cst_6 : Ref sig .tc := ⟨.hbm, 112, rfl⟩
abbrev main_v49 : Ref sig .tc := ⟨.hbm, 113, rfl⟩
abbrev main_v50 : Ref sig .tc := ⟨.hbm, 114, rfl⟩
abbrev main_c_7 : Ref sig .tc := ⟨.hbm, 115, rfl⟩
abbrev main_v51 : Ref sig .tc := ⟨.hbm, 116, rfl⟩
abbrev main_v52 : Ref sig .tc := ⟨.hbm, 117, rfl⟩
abbrev main_c_8 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_cst_9 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_v61 : Ref sig .tc := ⟨.hbm, 128, rfl⟩

abbrev nD : Nat := 1
abbrev τ : Topo := Topo.v7x

variable {F : FTy → Type} [FloatOps F]
-- ==== Proof.Read.lean ====
/- Arrays read at natural numbers. `at1` … `at4` read an array of rank 1 to 4 at coordinates given as natural numbers
   (taken modulo the extents, so that no default value is needed); the laws below say how a slice, a shape cast, a
   concatenation and a broadcast read. A pointwise operation reads pointwise by definition. -/
module

public import Idealize.ShloMosaic.Lib.Pipeline.Value
public import Idealize.ShloMosaic.Lib.ValueIdx
public import Idealize.ShloMosaic.Lib.IdealHost

@[expose] public section

namespace Lattice

open Idealize.ShloMosaic Idealize.ShloMosaic.ValueIdx

variable {α : Type}

/-- A vector read at a natural number. -/
def at1 {a : ℕ} [NeZero a] (x : (⟨1, ![a]⟩ : Shape).Idx → α) (i : ℕ) : α := x (ix1 (Fin.ofNat a i))

/-- A matrix read at two natural numbers. -/
def at2 {a b : ℕ} [NeZero a] [NeZero b] (x : (⟨2, ![a, b]⟩ : Shape).Idx → α) (i j : ℕ) : α :=
  x (ix2 (Fin.ofNat a i) (Fin.ofNat b j))

/-- An array of rank 3 read at three natural numbers. -/
def at3 {a b c : ℕ} [NeZero a] [NeZero b] [NeZero c] (x : (⟨3, ![a, b, c]⟩ : Shape).Idx → α) (i j k : ℕ) : α :=
  x (ix3 (Fin.ofNat a i) (Fin.ofNat b j) (Fin.ofNat c k))

/-- An array of rank 4 read at four natural numbers. -/
def at4 {a b c d : ℕ} [NeZero a] [NeZero b] [NeZero c] [NeZero d] (x : (⟨4, ![a, b, c, d]⟩ : Shape).Idx → α)
    (i j k l : ℕ) : α :=
  x (ix4 (Fin.ofNat a i) (Fin.ofNat b j) (Fin.ofNat c k) (Fin.ofNat d l))

/-- A number below the extent is its own residue. -/
theorem ofNat_val {a : ℕ} [NeZero a] {i : ℕ} (h : i < a) : (Fin.ofNat a i).val = i := Nat.mod_eq_of_lt h

/-- An element of a vector is the vector read at its coordinate. -/
theorem eq_at1 {a : ℕ} [NeZero a] (x : (⟨1, ![a]⟩ : Shape).Idx → α) (j : (⟨1, ![a]⟩ : Shape).Idx) :
    x j = at1 x (j 0).val := by
  refine congrArg x (funext fun u => Fin.ext ?_)
  match u with
  | ⟨0, _⟩ => exact (ofNat_val (show (j 0).val < a from (j 0).isLt)).symm

/-- An element of a matrix is the matrix read at its coordinates. -/
theorem eq_at2 {a b : ℕ} [NeZero a] [NeZero b] (x : (⟨2, ![a, b]⟩ : Shape).Idx → α) (j : (⟨2, ![a, b]⟩ : Shape).Idx) :
    x j = at2 x (j 0).val (j 1).val := by
  refine congrArg x (funext fun u => Fin.ext ?_)
  match u with
  | ⟨0, _⟩ => exact (ofNat_val (show (j 0).val < a from (j 0).isLt)).symm
  | ⟨1, _⟩ => exact (ofNat_val (show (j 1).val < b from (j 1).isLt)).symm

/-- An element of an array of rank 3 is the array read at its coordinates. -/
theorem eq_at3 {a b c : ℕ} [NeZero a] [NeZero b] [NeZero c] (x : (⟨3, ![a, b, c]⟩ : Shape).Idx → α)
    (j : (⟨3, ![a, b, c]⟩ : Shape).Idx) : x j = at3 x (j 0).val (j 1).val (j 2).val := by
  refine congrArg x (funext fun u => Fin.ext ?_)
  match u with
  | ⟨0, _⟩ => exact (ofNat_val (show (j 0).val < a from (j 0).isLt)).symm
  | ⟨1, _⟩ => exact (ofNat_val (show (j 1).val < b from (j 1).isLt)).symm
  | ⟨2, _⟩ => exact (ofNat_val (show (j 2).val < c from (j 2).isLt)).symm

/-- An element of an array of rank 4 is the array read at its coordinates. -/
theorem eq_at4 {a b c d : ℕ} [NeZero a] [NeZero b] [NeZero c] [NeZero d] (x : (⟨4, ![a, b, c, d]⟩ : Shape).Idx → α)
    (j : (⟨4, ![a, b, c, d]⟩ : Shape).Idx) : x j = at4 x (j 0).val (j 1).val (j 2).val (j 3).val := by
  refine congrArg x (funext fun u => Fin.ext ?_)
  match u with
  | ⟨0, _⟩ => exact (ofNat_val (show (j 0).val < a from (j 0).isLt)).symm
  | ⟨1, _⟩ => exact (ofNat_val (show (j 1).val < b from (j 1).isLt)).symm
  | ⟨2, _⟩ => exact (ofNat_val (show (j 2).val < c from (j 2).isLt)).symm
  | ⟨3, _⟩ => exact (ofNat_val (show (j 3).val < d from (j 3).isLt)).symm

/-! ## Slices -/

/-- A slice of a vector reads at the offset. -/
theorem at1_slice {a p : ℕ} [NeZero a] [NeZero p] (x : (⟨1, ![a]⟩ : Shape).Idx → α) (o : ℕ)
    (h : (⟨1, ![a]⟩ : Shape).Slices ![o] ⟨1, ![p]⟩) (i : ℕ) (hi : i < p) :
    at1 (extractStridedSlice ⟨1, ![p]⟩ ![o] x h) i = at1 x (o + i) := by
  have h0 : o + p ≤ a := h.2 0
  refine extractStridedSlice_apply _ _ _ _ _ fun u => ?_
  match u with
  | ⟨0, _⟩ =>
    show (Fin.ofNat a (o + i)).val = o + (Fin.ofNat p i).val
    rw [ofNat_val hi, ofNat_val (by omega)]

/-- A slice of a matrix reads at the offsets. -/
theorem at2_slice {a b p q : ℕ} [NeZero a] [NeZero b] [NeZero p] [NeZero q] (x : (⟨2, ![a, b]⟩ : Shape).Idx → α)
    (o₀ o₁ : ℕ) (h : (⟨2, ![a, b]⟩ : Shape).Slices ![o₀, o₁] ⟨2, ![p, q]⟩) (i j : ℕ) (hi : i < p) (hj : j < q) :
    at2 (extractStridedSlice ⟨2, ![p, q]⟩ ![o₀, o₁] x h) i j = at2 x (o₀ + i) (o₁ + j) := by
  have h0 : o₀ + p ≤ a := h.2 0
  have h1 : o₁ + q ≤ b := h.2 1
  refine extractStridedSlice_apply _ _ _ _ _ fun u => ?_
  match u with
  | ⟨0, _⟩ =>
    show (Fin.ofNat a (o₀ + i)).val = o₀ + (Fin.ofNat p i).val
    rw [ofNat_val hi, ofNat_val (by omega)]
  | ⟨1, _⟩ =>
    show (Fin.ofNat b (o₁ + j)).val = o₁ + (Fin.ofNat q j).val
    rw [ofNat_val hj, ofNat_val (by omega)]

/-- A slice of an array of rank 3 reads at the offsets. -/
theorem at3_slice {a b c p q r : ℕ} [NeZero a] [NeZero b] [NeZero c] [NeZero p] [NeZero q] [NeZero r]
    (x : (⟨3, ![a, b, c]⟩ : Shape).Idx → α) (o₀ o₁ o₂ : ℕ)
    (h : (⟨3, ![a, b, c]⟩ : Shape).Slices ![o₀, o₁, o₂] ⟨3, ![p, q, r]⟩) (i j k : ℕ)
    (hi : i < p) (hj : j < q) (hk : k < r) :
    at3 (extractStridedSlice ⟨3, ![p, q, r]⟩ ![o₀, o₁, o₂] x h) i j k = at3 x (o₀ + i) (o₁ + j) (o₂ + k) := by
  have h0 : o₀ + p ≤ a := h.2 0
  have h1 : o₁ + q ≤ b := h.2 1
  have h2 : o₂ + r ≤ c := h.2 2
  refine extractStridedSlice_apply _ _ _ _ _ fun u => ?_
  match u with
  | ⟨0, _⟩ =>
    show (Fin.ofNat a (o₀ + i)).val = o₀ + (Fin.ofNat p i).val
    rw [ofNat_val hi, ofNat_val (by omega)]
  | ⟨1, _⟩ =>
    show (Fin.ofNat b (o₁ + j)).val = o₁ + (Fin.ofNat q j).val
    rw [ofNat_val hj, ofNat_val (by omega)]
  | ⟨2, _⟩ =>
    show (Fin.ofNat c (o₂ + k)).val = o₂ + (Fin.ofNat r k).val
    rw [ofNat_val hk, ofNat_val (by omega)]

/-! ## Shape casts -/

/-- A vector viewed as a matrix. -/
theorem at2_cast1 {n a b : ℕ} [NeZero n] [NeZero a] [NeZero b] (x : (⟨1, ![n]⟩ : Shape).Idx → α)
    (h : (⟨1, ![n]⟩ : Shape).ShapeCasts ⟨2, ![a, b]⟩) (i j : ℕ) (hi : i < a) (hj : j < b) (hn : i * b + j < n) :
    at2 (shapeCast ⟨2, ![a, b]⟩ x h) i j = at1 x (i * b + j) := by
  refine shapeCast_apply _ _ _ _ ?_
  rw [Shape.rowMajor_val_one, Shape.rowMajor_val_two]
  show (Fin.ofNat n (i * b + j)).val = (Fin.ofNat a i).val * b + (Fin.ofNat b j).val
  rw [ofNat_val hi, ofNat_val hj, ofNat_val hn]

/-- A vector viewed as an array of rank 3. -/
theorem at3_cast1 {n a b c : ℕ} [NeZero n] [NeZero a] [NeZero b] [NeZero c] (x : (⟨1, ![n]⟩ : Shape).Idx → α)
    (h : (⟨1, ![n]⟩ : Shape).ShapeCasts ⟨3, ![a, b, c]⟩) (i j k : ℕ) (hi : i < a) (hj : j < b) (hk : k < c)
    (hn : (i * b + j) * c + k < n) :
    at3 (shapeCast ⟨3, ![a, b, c]⟩ x h) i j k = at1 x ((i * b + j) * c + k) := by
  refine shapeCast_apply _ _ _ _ ?_
  rw [Shape.rowMajor_val_one, Shape.rowMajor_val_three]
  show (Fin.ofNat n ((i * b + j) * c + k)).val = ((Fin.ofNat a i).val * b + (Fin.ofNat b j).val) * c + (Fin.ofNat c k).val
  rw [ofNat_val hi, ofNat_val hj, ofNat_val hk, ofNat_val hn]

/-- A matrix viewed as a vector. -/
theorem at1_cast2 {n a b : ℕ} [NeZero n] [NeZero a] [NeZero b] (x : (⟨2, ![a, b]⟩ : Shape).Idx → α)
    (h : (⟨2, ![a, b]⟩ : Shape).ShapeCasts ⟨1, ![n]⟩) (i : ℕ) (hi : i < n) (hq : i / b < a) :
    at1 (shapeCast ⟨1, ![n]⟩ x h) i = at2 x (i / b) (i % b) := by
  refine shapeCast_apply _ _ _ _ ?_
  rw [Shape.rowMajor_val_one, Shape.rowMajor_val_two]
  show (Fin.ofNat a (i / b)).val * b + (Fin.ofNat b (i % b)).val = (Fin.ofNat n i).val
  rw [ofNat_val hi, ofNat_val hq, ofNat_val (Nat.mod_lt _ (Nat.pos_of_ne_zero (NeZero.ne b))), Nat.div_add_mod']

/-- A matrix of pairs viewed as an array of rank 3. -/
theorem at3_cast2 {n a b c : ℕ} [NeZero n] [NeZero a] [NeZero b] [NeZero c] (x : (⟨2, ![n, 2]⟩ : Shape).Idx → α)
    (h : (⟨2, ![n, 2]⟩ : Shape).ShapeCasts ⟨3, ![a, b, c]⟩) (i j k : ℕ) (hi : i < a) (hj : j < b) (hk : k < c)
    (hn : ((i * b + j) * c + k) / 2 < n) :
    at3 (shapeCast ⟨3, ![a, b, c]⟩ x h) i j k = at2 x (((i * b + j) * c + k) / 2) (((i * b + j) * c + k) % 2) := by
  refine shapeCast_apply _ _ _ _ ?_
  rw [Shape.rowMajor_val_two, Shape.rowMajor_val_three]
  show (Fin.ofNat n (((i * b + j) * c + k) / 2)).val * 2 + (Fin.ofNat 2 (((i * b + j) * c + k) % 2)).val
    = ((Fin.ofNat a i).val * b + (Fin.ofNat b j).val) * c + (Fin.ofNat c k).val
  rw [ofNat_val hi, ofNat_val hj, ofNat_val hk, ofNat_val hn, ofNat_val (Nat.mod_lt _ (by decide)), Nat.div_add_mod']

/-- A leading unit axis dropped. -/
theorem at2_drop {a b : ℕ} [NeZero a] [NeZero b] (x : (⟨3, ![1, a, b]⟩ : Shape).Idx → α)
    (h : (⟨3, ![1, a, b]⟩ : Shape).ShapeCasts ⟨2, ![a, b]⟩) (i j : ℕ) :
    at2 (shapeCast ⟨2, ![a, b]⟩ x h) i j = at3 x 0 i j := by
  refine shapeCast_apply _ _ _ _ ?_
  rw [Shape.rowMajor_val_two, Shape.rowMajor_val_three]
  show ((Fin.ofNat 1 0).val * a + (Fin.ofNat a i).val) * b + (Fin.ofNat b j).val = (Fin.ofNat a i).val * b + (Fin.ofNat b j).val
  rw [ofNat_val Nat.one_pos, Nat.zero_mul, Nat.zero_add]

/-- Two leading unit axes added. -/
theorem at4_add {a b : ℕ} [NeZero a] [NeZero b] (x : (⟨2, ![a, b]⟩ : Shape).Idx → α)
    (h : (⟨2, ![a, b]⟩ : Shape).ShapeCasts ⟨4, ![1, 1, a, b]⟩) (i j : ℕ) :
    at4 (shapeCast ⟨4, ![1, 1, a, b]⟩ x h) 0 0 i j = at2 x i j := by
  refine shapeCast_apply _ _ _ _ ?_
  rw [Shape.rowMajor_val_two, Shape.rowMajor_val_four]
  show (Fin.ofNat a i).val * b + (Fin.ofNat b j).val
    = (((Fin.ofNat 1 0).val * 1 + (Fin.ofNat 1 0).val) * a + (Fin.ofNat a i).val) * b + (Fin.ofNat b j).val
  rw [ofNat_val Nat.one_pos]
  simp

/-- A trailing unit axis dropped. -/
theorem at2_dropLast {a b : ℕ} [NeZero a] [NeZero b] (x : (⟨3, ![a, b, 1]⟩ : Shape).Idx → α)
    (h : (⟨3, ![a, b, 1]⟩ : Shape).ShapeCasts ⟨2, ![a, b]⟩) (i j : ℕ) :
    at2 (shapeCast ⟨2, ![a, b]⟩ x h) i j = at3 x i j 0 := by
  refine shapeCast_apply _ _ _ _ ?_
  rw [Shape.rowMajor_val_two, Shape.rowMajor_val_three]
  show ((Fin.ofNat a i).val * b + (Fin.ofNat b j).val) * 1 + (Fin.ofNat 1 0).val = (Fin.ofNat a i).val * b + (Fin.ofNat b j).val
  rw [ofNat_val Nat.one_pos, Nat.mul_one, Nat.add_zero]

/-- A trailing unit axis added. -/
theorem at3_addLast {a b : ℕ} [NeZero a] [NeZero b] (x : (⟨2, ![a, b]⟩ : Shape).Idx → α)
    (h : (⟨2, ![a, b]⟩ : Shape).ShapeCasts ⟨3, ![a, b, 1]⟩) (i j : ℕ) :
    at3 (shapeCast ⟨3, ![a, b, 1]⟩ x h) i j 0 = at2 x i j := by
  refine shapeCast_apply _ _ _ _ ?_
  rw [Shape.rowMajor_val_two, Shape.rowMajor_val_three]
  show (Fin.ofNat a i).val * b + (Fin.ofNat b j).val = ((Fin.ofNat a i).val * b + (Fin.ofNat b j).val) * 1 + (Fin.ofNat 1 0).val
  rw [ofNat_val Nat.one_pos, Nat.mul_one, Nat.add_zero]

/-- The lanes of a row split into pairs. -/
theorem at3_split {a b c : ℕ} [NeZero a] [NeZero b] [NeZero c] (x : (⟨2, ![a, b]⟩ : Shape).Idx → α)
    (h : (⟨2, ![a, b]⟩ : Shape).ShapeCasts ⟨3, ![a, c, 2]⟩) (i j k : ℕ) (hi : i < a) (hj : j < c) (hk : k < 2)
    (hb : b = c * 2) : at3 (shapeCast ⟨3, ![a, c, 2]⟩ x h) i j k = at2 x i (2 * j + k) := by
  refine shapeCast_apply _ _ _ _ ?_
  rw [Shape.rowMajor_val_two, Shape.rowMajor_val_three]
  show (Fin.ofNat a i).val * b + (Fin.ofNat b (2 * j + k)).val
    = ((Fin.ofNat a i).val * c + (Fin.ofNat c j).val) * 2 + (Fin.ofNat 2 k).val
  rw [ofNat_val hi, ofNat_val hj, ofNat_val hk, ofNat_val (by omega)]
  subst hb
  ring

/-- The pairs of a row joined into lanes. -/
theorem at2_join {a b c : ℕ} [NeZero a] [NeZero b] [NeZero c] (x : (⟨3, ![a, c, 2]⟩ : Shape).Idx → α)
    (h : (⟨3, ![a, c, 2]⟩ : Shape).ShapeCasts ⟨2, ![a, b]⟩) (i l : ℕ) (hi : i < a) (hl : l < b)
    (hb : b = c * 2) : at2 (shapeCast ⟨2, ![a, b]⟩ x h) i l = at3 x i (l / 2) (l % 2) := by
  refine shapeCast_apply _ _ _ _ ?_
  rw [Shape.rowMajor_val_two, Shape.rowMajor_val_three]
  show ((Fin.ofNat a i).val * c + (Fin.ofNat c (l / 2)).val) * 2 + (Fin.ofNat 2 (l % 2)).val
    = (Fin.ofNat a i).val * b + (Fin.ofNat b l).val
  rw [ofNat_val hi, ofNat_val hl, ofNat_val (by omega), ofNat_val (by omega)]
  subst hb
  rw [Nat.add_mul, Nat.mul_assoc]
  omega

/-- The result array of the kernel viewed as a vector. -/
theorem at1_cast4 (x : (⟨4, ![2, 25, 10, 800]⟩ : Shape).Idx → α)
    (h : (⟨4, ![2, 25, 10, 800]⟩ : Shape).ShapeCasts ⟨1, ![400000]⟩) (w t r l : ℕ) (hw : w < 2) (ht : t < 25) (hr : r < 10)
    (hl : l < 800) :
    at1 (shapeCast ⟨1, ![400000]⟩ x h) (200000 * w + 8000 * t + 800 * r + l) = at4 x w t r l := by
  refine shapeCast_apply _ _ _ _ ?_
  rw [Shape.rowMajor_val_one, Shape.rowMajor_val_four]
  show (((Fin.ofNat 2 w).val * 25 + (Fin.ofNat 25 t).val) * 10 + (Fin.ofNat 10 r).val) * 800 + (Fin.ofNat 800 l).val
    = (Fin.ofNat 400000 (200000 * w + 8000 * t + 800 * r + l)).val
  rw [ofNat_val hw, ofNat_val ht, ofNat_val hr, ofNat_val hl, ofNat_val (by omega)]
  omega

/-! ## Concatenations -/

/-- Two vectors laid end to end: an index in the first. -/
theorem at1_pair_left {n a b : ℕ} [NeZero n] [NeZero a] [NeZero b] (x : (⟨1, ![a]⟩ : Shape).Idx → α)
    (y : (⟨1, ![b]⟩ : Shape).Idx → α) (h : Shape.Concatenates [⟨1, ![a]⟩, ⟨1, ![b]⟩] ⟨1, ![n]⟩ 0) (i : ℕ) (hi : i < a)
    (hn : i < n) : at1 (concatenate ⟨1, ![n]⟩ 0 [⟨_, x⟩, ⟨_, y⟩] h) i = at1 x i := by
  unfold at1
  refine concatenate_pair_apply_left (t := ⟨1, ![n]⟩) 0 x y h _ rfl _ fun u => ?_
  match u with
  | ⟨0, _⟩ =>
    show (Fin.ofNat a i).val = (Fin.ofNat n i).val
    rw [ofNat_val hi, ofNat_val hn]

/-- Two vectors laid end to end: an index in the second. -/
theorem at1_pair_right {n a b : ℕ} [NeZero n] [NeZero a] [NeZero b] (x : (⟨1, ![a]⟩ : Shape).Idx → α)
    (y : (⟨1, ![b]⟩ : Shape).Idx → α) (h : Shape.Concatenates [⟨1, ![a]⟩, ⟨1, ![b]⟩] ⟨1, ![n]⟩ 0) (i : ℕ) (hi : a ≤ i)
    (hb : i - a < b) (hn : i < n) : at1 (concatenate ⟨1, ![n]⟩ 0 [⟨_, x⟩, ⟨_, y⟩] h) i = at1 y (i - a) := by
  unfold at1
  refine concatenate_pair_apply_right (t := ⟨1, ![n]⟩) 0 x y h _ rfl rfl _ (fun u hu => ?_) ?_
  · match u, hu with
    | ⟨0, _⟩, hu => exact absurd rfl hu
  · show (Fin.ofNat b (i - a)).val + a = (Fin.ofNat n i).val
    rw [ofNat_val hb, ofNat_val hn]
    omega

/-- Two matrices side by side: a column of the first. -/
theorem at2_pairCol_left {m n a b : ℕ} [NeZero m] [NeZero n] [NeZero a] [NeZero b] (x : (⟨2, ![m, a]⟩ : Shape).Idx → α)
    (y : (⟨2, ![m, b]⟩ : Shape).Idx → α) (h : Shape.Concatenates [⟨2, ![m, a]⟩, ⟨2, ![m, b]⟩] ⟨2, ![m, n]⟩ 1) (i j : ℕ)
    (hj : j < a) (hn : j < n) : at2 (concatenate ⟨2, ![m, n]⟩ 1 [⟨_, x⟩, ⟨_, y⟩] h) i j = at2 x i j := by
  unfold at2
  refine concatenate_pair_apply_left (t := ⟨2, ![m, n]⟩) 1 x y h _ rfl _ fun u => ?_
  match u with
  | ⟨0, _⟩ => rfl
  | ⟨1, _⟩ =>
    show (Fin.ofNat a j).val = (Fin.ofNat n j).val
    rw [ofNat_val hj, ofNat_val hn]

/-- Two matrices side by side: a column of the second. -/
theorem at2_pairCol_right {m n a b : ℕ} [NeZero m] [NeZero n] [NeZero a] [NeZero b] (x : (⟨2, ![m, a]⟩ : Shape).Idx → α)
    (y : (⟨2, ![m, b]⟩ : Shape).Idx → α) (h : Shape.Concatenates [⟨2, ![m, a]⟩, ⟨2, ![m, b]⟩] ⟨2, ![m, n]⟩ 1) (i j : ℕ)
    (hj : a ≤ j) (hb : j - a < b) (hn : j < n) :
    at2 (concatenate ⟨2, ![m, n]⟩ 1 [⟨_, x⟩, ⟨_, y⟩] h) i j = at2 y i (j - a) := by
  unfold at2
  refine concatenate_pair_apply_right (t := ⟨2, ![m, n]⟩) 1 x y h _ rfl rfl _ (fun u hu => ?_) ?_
  · match u, hu with
    | ⟨0, _⟩, _ => rfl
    | ⟨1, _⟩, hu => exact absurd rfl hu
  · show (Fin.ofNat b (j - a)).val + a = (Fin.ofNat n j).val
    rw [ofNat_val hb, ofNat_val hn]
    omega

/-- Two matrices one above the other: a row of the first. -/
theorem at2_pairRow_left {m n a b : ℕ} [NeZero m] [NeZero n] [NeZero a] [NeZero b] (x : (⟨2, ![a, n]⟩ : Shape).Idx → α)
    (y : (⟨2, ![b, n]⟩ : Shape).Idx → α) (h : Shape.Concatenates [⟨2, ![a, n]⟩, ⟨2, ![b, n]⟩] ⟨2, ![m, n]⟩ 0) (i j : ℕ)
    (hi : i < a) (hm : i < m) : at2 (concatenate ⟨2, ![m, n]⟩ 0 [⟨_, x⟩, ⟨_, y⟩] h) i j = at2 x i j := by
  unfold at2
  refine concatenate_pair_apply_left (t := ⟨2, ![m, n]⟩) 0 x y h _ rfl _ fun u => ?_
  match u with
  | ⟨0, _⟩ =>
    show (Fin.ofNat a i).val = (Fin.ofNat m i).val
    rw [ofNat_val hi, ofNat_val hm]
  | ⟨1, _⟩ => rfl

/-- Two matrices one above the other: a row of the second. -/
theorem at2_pairRow_right {m n a b : ℕ} [NeZero m] [NeZero n] [NeZero a] [NeZero b] (x : (⟨2, ![a, n]⟩ : Shape).Idx → α)
    (y : (⟨2, ![b, n]⟩ : Shape).Idx → α) (h : Shape.Concatenates [⟨2, ![a, n]⟩, ⟨2, ![b, n]⟩] ⟨2, ![m, n]⟩ 0) (i j : ℕ)
    (hi : a ≤ i) (hb : i - a < b) (hm : i < m) :
    at2 (concatenate ⟨2, ![m, n]⟩ 0 [⟨_, x⟩, ⟨_, y⟩] h) i j = at2 y (i - a) j := by
  unfold at2
  refine concatenate_pair_apply_right (t := ⟨2, ![m, n]⟩) 0 x y h _ rfl rfl _ (fun u hu => ?_) ?_
  · match u, hu with
    | ⟨0, _⟩, hu => exact absurd rfl hu
    | ⟨1, _⟩, _ => rfl
  · show (Fin.ofNat b (i - a)).val + a = (Fin.ofNat m i).val
    rw [ofNat_val hb, ofNat_val hm]
    omega

/-- Two arrays of rank 3 stacked along a last axis of two: the first. -/
theorem at3_stack_left {a b : ℕ} [NeZero a] [NeZero b] (x y : (⟨3, ![a, b, 1]⟩ : Shape).Idx → α)
    (h : Shape.Concatenates [⟨3, ![a, b, 1]⟩, ⟨3, ![a, b, 1]⟩] ⟨3, ![a, b, 2]⟩ 2) (i j : ℕ) :
    at3 (concatenate ⟨3, ![a, b, 2]⟩ 2 [⟨_, x⟩, ⟨_, y⟩] h) i j 0 = at3 x i j 0 := by
  unfold at3
  refine concatenate_pair_apply_left (t := ⟨3, ![a, b, 2]⟩) 2 x y h _ rfl _ fun u => ?_
  match u with
  | ⟨0, _⟩ => rfl
  | ⟨1, _⟩ => rfl
  | ⟨2, _⟩ => rfl

/-- Two arrays of rank 3 stacked along a last axis of two: the second. -/
theorem at3_stack_right {a b : ℕ} [NeZero a] [NeZero b] (x y : (⟨3, ![a, b, 1]⟩ : Shape).Idx → α)
    (h : Shape.Concatenates [⟨3, ![a, b, 1]⟩, ⟨3, ![a, b, 1]⟩] ⟨3, ![a, b, 2]⟩ 2) (i j : ℕ) :
    at3 (concatenate ⟨3, ![a, b, 2]⟩ 2 [⟨_, x⟩, ⟨_, y⟩] h) i j 1 = at3 y i j 0 := by
  unfold at3
  refine concatenate_pair_apply_right (t := ⟨3, ![a, b, 2]⟩) 2 x y h _ rfl rfl _ (fun u hu => ?_) ?_
  · match u, hu with
    | ⟨0, _⟩, _ => rfl
    | ⟨1, _⟩, _ => rfl
    | ⟨2, _⟩, hu => exact absurd rfl hu
  · rfl

/-- Three matrices one above the other: a row of the first. -/
theorem at2_tripleRow_fst {m n a b c : ℕ} [NeZero m] [NeZero n] [NeZero a] [NeZero b] [NeZero c]
    (x : (⟨2, ![a, n]⟩ : Shape).Idx → α) (y : (⟨2, ![b, n]⟩ : Shape).Idx → α) (z : (⟨2, ![c, n]⟩ : Shape).Idx → α)
    (h : Shape.Concatenates [⟨2, ![a, n]⟩, ⟨2, ![b, n]⟩, ⟨2, ![c, n]⟩] ⟨2, ![m, n]⟩ 0) (i j : ℕ) (hi : i < a) (hm : i < m) :
    at2 (concatenate ⟨2, ![m, n]⟩ 0 [⟨_, x⟩, ⟨_, y⟩, ⟨_, z⟩] h) i j = at2 x i j := by
  unfold at2
  refine concatenate_apply_piece (t := ⟨2, ![m, n]⟩) 0 [⟨_, x⟩, ⟨_, y⟩, ⟨_, z⟩] h _ 0 (by simp) _ _ rfl rfl 0 (by simp) _ (fun u hu => ?_) ?_
  · match u, hu with
    | ⟨0, _⟩, hu => exact absurd rfl hu
    | ⟨1, _⟩, _ => rfl
  · show 0 + (Fin.ofNat a i).val = (Fin.ofNat m i).val
    rw [ofNat_val hi, ofNat_val hm, Nat.zero_add]

/-- Three matrices one above the other: a row of the second. -/
theorem at2_tripleRow_snd {m n a b c : ℕ} [NeZero m] [NeZero n] [NeZero a] [NeZero b] [NeZero c]
    (x : (⟨2, ![a, n]⟩ : Shape).Idx → α) (y : (⟨2, ![b, n]⟩ : Shape).Idx → α) (z : (⟨2, ![c, n]⟩ : Shape).Idx → α)
    (h : Shape.Concatenates [⟨2, ![a, n]⟩, ⟨2, ![b, n]⟩, ⟨2, ![c, n]⟩] ⟨2, ![m, n]⟩ 0) (i j : ℕ) (hi : a ≤ i)
    (hb : i - a < b) (hm : i < m) :
    at2 (concatenate ⟨2, ![m, n]⟩ 0 [⟨_, x⟩, ⟨_, y⟩, ⟨_, z⟩] h) i j = at2 y (i - a) j := by
  unfold at2
  refine concatenate_apply_piece (t := ⟨2, ![m, n]⟩) 0 [⟨_, x⟩, ⟨_, y⟩, ⟨_, z⟩] h _ 1 (by simp) _ _ rfl rfl a (by simp) _ (fun u hu => ?_) ?_
  · match u, hu with
    | ⟨0, _⟩, hu => exact absurd rfl hu
    | ⟨1, _⟩, _ => rfl
  · show a + (Fin.ofNat b (i - a)).val = (Fin.ofNat m i).val
    rw [ofNat_val hb, ofNat_val hm]
    omega

/-- Three matrices one above the other: a row of the third. -/
theorem at2_tripleRow_thd {m n a b c : ℕ} [NeZero m] [NeZero n] [NeZero a] [NeZero b] [NeZero c]
    (x : (⟨2, ![a, n]⟩ : Shape).Idx → α) (y : (⟨2, ![b, n]⟩ : Shape).Idx → α) (z : (⟨2, ![c, n]⟩ : Shape).Idx → α)
    (h : Shape.Concatenates [⟨2, ![a, n]⟩, ⟨2, ![b, n]⟩, ⟨2, ![c, n]⟩] ⟨2, ![m, n]⟩ 0) (i j : ℕ) (hi : a + b ≤ i)
    (hc : i - (a + b) < c) (hm : i < m) :
    at2 (concatenate ⟨2, ![m, n]⟩ 0 [⟨_, x⟩, ⟨_, y⟩, ⟨_, z⟩] h) i j = at2 z (i - (a + b)) j := by
  unfold at2
  refine concatenate_apply_piece (t := ⟨2, ![m, n]⟩) 0 [⟨_, x⟩, ⟨_, y⟩, ⟨_, z⟩] h _ 2 (by simp) _ _ rfl rfl (a + b) (by simp) _ (fun u hu => ?_) ?_
  · match u, hu with
    | ⟨0, _⟩, hu => exact absurd rfl hu
    | ⟨1, _⟩, _ => rfl
  · show a + b + (Fin.ofNat c (i - (a + b))).val = (Fin.ofNat m i).val
    rw [ofNat_val hc, ofNat_val hm]
    omega

/-- Three vectors laid end to end: an index in the first. -/
theorem at1_triple_fst {n a b c : ℕ} [NeZero n] [NeZero a] [NeZero b] [NeZero c] (x : (⟨1, ![a]⟩ : Shape).Idx → α)
    (y : (⟨1, ![b]⟩ : Shape).Idx → α) (z : (⟨1, ![c]⟩ : Shape).Idx → α)
    (h : Shape.Concatenates [⟨1, ![a]⟩, ⟨1, ![b]⟩, ⟨1, ![c]⟩] ⟨1, ![n]⟩ 0) (i : ℕ) (hi : i < a) (hn : i < n) :
    at1 (concatenate ⟨1, ![n]⟩ 0 [⟨_, x⟩, ⟨_, y⟩, ⟨_, z⟩] h) i = at1 x i := by
  unfold at1
  refine concatenate_apply_piece (t := ⟨1, ![n]⟩) 0 [⟨_, x⟩, ⟨_, y⟩, ⟨_, z⟩] h _ 0 (by simp) _ _ rfl rfl 0 (by simp) _ (fun u hu => ?_) ?_
  · match u, hu with
    | ⟨0, _⟩, hu => exact absurd rfl hu
  · show 0 + (Fin.ofNat a i).val = (Fin.ofNat n i).val
    rw [ofNat_val hi, ofNat_val hn, Nat.zero_add]

/-- Three vectors laid end to end: an index in the second. -/
theorem at1_triple_snd {n a b c : ℕ} [NeZero n] [NeZero a] [NeZero b] [NeZero c] (x : (⟨1, ![a]⟩ : Shape).Idx → α)
    (y : (⟨1, ![b]⟩ : Shape).Idx → α) (z : (⟨1, ![c]⟩ : Shape).Idx → α)
    (h : Shape.Concatenates [⟨1, ![a]⟩, ⟨1, ![b]⟩, ⟨1, ![c]⟩] ⟨1, ![n]⟩ 0) (i : ℕ) (hi : a ≤ i) (hb : i - a < b)
    (hn : i < n) : at1 (concatenate ⟨1, ![n]⟩ 0 [⟨_, x⟩, ⟨_, y⟩, ⟨_, z⟩] h) i = at1 y (i - a) := by
  unfold at1
  refine concatenate_apply_piece (t := ⟨1, ![n]⟩) 0 [⟨_, x⟩, ⟨_, y⟩, ⟨_, z⟩] h _ 1 (by simp) _ _ rfl rfl a (by simp) _ (fun u hu => ?_) ?_
  · match u, hu with
    | ⟨0, _⟩, hu => exact absurd rfl hu
  · show a + (Fin.ofNat b (i - a)).val = (Fin.ofNat n i).val
    rw [ofNat_val hb, ofNat_val hn]
    omega

/-- Three vectors laid end to end: an index in the third. -/
theorem at1_triple_thd {n a b c : ℕ} [NeZero n] [NeZero a] [NeZero b] [NeZero c] (x : (⟨1, ![a]⟩ : Shape).Idx → α)
    (y : (⟨1, ![b]⟩ : Shape).Idx → α) (z : (⟨1, ![c]⟩ : Shape).Idx → α)
    (h : Shape.Concatenates [⟨1, ![a]⟩, ⟨1, ![b]⟩, ⟨1, ![c]⟩] ⟨1, ![n]⟩ 0) (i : ℕ) (hi : a + b ≤ i) (hc : i - (a + b) < c)
    (hn : i < n) : at1 (concatenate ⟨1, ![n]⟩ 0 [⟨_, x⟩, ⟨_, y⟩, ⟨_, z⟩] h) i = at1 z (i - (a + b)) := by
  unfold at1
  refine concatenate_apply_piece (t := ⟨1, ![n]⟩) 0 [⟨_, x⟩, ⟨_, y⟩, ⟨_, z⟩] h _ 2 (by simp) _ _ rfl rfl (a + b) (by simp) _ (fun u hu => ?_) ?_
  · match u, hu with
    | ⟨0, _⟩, hu => exact absurd rfl hu
  · show a + b + (Fin.ofNat c (i - (a + b))).val = (Fin.ofNat n i).val
    rw [ofNat_val hc, ofNat_val hn]
    omega

/-! ## Broadcasts -/

/-- A vector broadcast along a new last axis. -/
theorem at2_bcastCol {a b : ℕ} [NeZero a] [NeZero b] (x : (⟨1, ![a]⟩ : Shape).Idx → α)
    (h : (⟨1, ![a]⟩ : Shape).BroadcastsInDim ⟨2, ![a, b]⟩ ![0]) (i j : ℕ) (hi : i < a) :
    at2 (broadcastInDim ⟨2, ![a, b]⟩ ![0] h x) i j = at1 x i := by
  refine broadcastInDim_apply _ _ _ _ _ fun u => ?_
  match u with
  | ⟨0, _⟩ =>
    show (Fin.ofNat a i).val = if a = 1 then 0 else (Fin.ofNat a i).val
    rw [ofNat_val hi]
    split <;> omega

/-- A scalar broadcast to a vector. -/
theorem at1_bcastScalar {a : ℕ} [NeZero a] (x : (⟨0, ![]⟩ : Shape).Idx → α)
    (h : (⟨0, ![]⟩ : Shape).BroadcastsInDim ⟨1, ![a]⟩ ![]) (i : ℕ) :
    at1 (broadcastInDim ⟨1, ![a]⟩ ![] h x) i = x ix0 := broadcastInDim_scalar_apply _ _ _

/-- A scalar broadcast to a matrix. -/
theorem at2_bcastScalar {a b : ℕ} [NeZero a] [NeZero b] (x : (⟨0, ![]⟩ : Shape).Idx → α)
    (h : (⟨0, ![]⟩ : Shape).BroadcastsInDim ⟨2, ![a, b]⟩ ![]) (i j : ℕ) :
    at2 (broadcastInDim ⟨2, ![a, b]⟩ ![] h x) i j = x ix0 := broadcastInDim_scalar_apply _ _ _

end Lattice
-- ==== Proof.Spec.lean ====
/- The mathematics of one spring, over the extended reals, as the kernel writes it. -/
module

public import Idealize.ShloMosaic.PureOps.Ideal.Laws
public import proofs.«01_k».proof.Proof.Read

@[expose] public section

noncomputable section

namespace Lattice

open Idealize.ShloMosaic Idealize.ShloMosaic.ValueIdx

/-- The length of a spring whose ends differ by `p` and `q`, kept away from zero by a small constant. -/
def length (p q : EReal) : EReal := max (Ideal.sqrt (p * p + q * q)) (Ideal.ofBits .f32 0x2B8CBCCC#32)

/-- The force of a spring of stiffness `k` and rest length `r`, along a difference `g`, in the order in which the kernel
    multiplies and divides. -/
def tension (k r p q g : EReal) : EReal := Ideal.div (k * (length p q - r)) (length p q) * g

/-- The same force in the order in which the reference multiplies and divides. -/
def tensionRef (k r p q g : EReal) : EReal := k * (length p q - r) * Ideal.div g (length p q)

/-- A node that is not on the border of the lattice: row `1` to `248`, column `1` to `398`. -/
def Interior (i j : ℕ) : Prop := 0 < i ∧ i < 249 ∧ 0 < j ∧ j < 399

instance (i j : ℕ) : Decidable (Interior i j) := inferInstanceAs (Decidable (_ ∧ _))

/-! ## The whole lattice

`S` is the state vector (200000 positions, then 200000 velocities, both node by node and component by component), `M` the
masses, `C` the damping coefficients, `K` the spring constants and `R` the rest lengths. -/

/-- The force of spring `e`, which runs from node `p` to node `q`, in component `d`. -/
def spring (S K R : ℕ → EReal) (e p q d : ℕ) : EReal :=
  tension (K e) (R e) (S (2 * q) - S (2 * p)) (S (2 * q + 1) - S (2 * p + 1)) (S (2 * q + d) - S (2 * p + d))

/-- The acceleration of the node in row `i` and column `j`, in component `d`, as the kernel adds it up: the springs at its
    right and left, below and above, then the damping, over the mass. -/
def acceleration (S K R : ℕ → EReal) (M C : ℕ → ℕ → EReal) (i j d : ℕ) : EReal :=
  Ideal.div ((((spring S K R (399 * i + j) (400 * i + j) (400 * i + j + 1) d
        - spring S K R (399 * i + j - 1) (400 * i + j - 1) (400 * i + j) d)
        + spring S K R (99750 + (400 * i + j)) (400 * i + j) (400 * i + j + 400) d)
      - spring S K R (99350 + (400 * i + j)) (400 * i + j - 400) (400 * i + j) d)
      - C (400 * i + j) d * S (200000 + (2 * (400 * i + j) + d)))
    (M (400 * i + j) d)

/-- The derivative of the state, in its order: velocities, then accelerations (`w` is 0 or 1), both zero on the border. -/
def derivative (S K R : ℕ → EReal) (M C : ℕ → ℕ → EReal) (w i j d : ℕ) : EReal :=
  if Interior i j then
    (if w = 0 then S (200000 + (2 * (400 * i + j) + d)) else acceleration S K R M C i j d)
  else 0

/-! ## Pointwise operations read pointwise -/

section Pointwise

variable {a b : ℕ} [NeZero a] [NeZero b]

/-- A difference of vectors. -/
theorem at1_subf (x y : FVec Ideal ⟨1, ![a]⟩ .f32) (i : ℕ) : at1 (subf x y) i = at1 x i - at1 y i := rfl
/-- A product of vectors. -/
theorem at1_mulf (x y : FVec Ideal ⟨1, ![a]⟩ .f32) (i : ℕ) : at1 (mulf x y) i = at1 x i * at1 y i := rfl
/-- A sum of vectors. -/
theorem at1_addf (x y : FVec Ideal ⟨1, ![a]⟩ .f32) (i : ℕ) : at1 (addf x y) i = at1 x i + at1 y i := rfl
/-- A maximum of vectors. -/
theorem at1_maximumf (x y : FVec Ideal ⟨1, ![a]⟩ .f32) (i : ℕ) : at1 (maximumf x y) i = max (at1 x i) (at1 y i) := rfl
/-- A difference of matrices. -/
theorem at2_subf (x y : FVec Ideal ⟨2, ![a, b]⟩ .f32) (i j : ℕ) : at2 (subf x y) i j = at2 x i j - at2 y i j := rfl
/-- A product of matrices. -/
theorem at2_mulf (x y : FVec Ideal ⟨2, ![a, b]⟩ .f32) (i j : ℕ) : at2 (mulf x y) i j = at2 x i j * at2 y i j := rfl
/-- A sum of matrices. -/
theorem at2_addf (x y : FVec Ideal ⟨2, ![a, b]⟩ .f32) (i j : ℕ) : at2 (addf x y) i j = at2 x i j + at2 y i j := rfl
/-- A quotient of matrices. -/
theorem at2_divf (x y : FVec Ideal ⟨2, ![a, b]⟩ .f32) (i j : ℕ) : at2 (divf x y) i j = Ideal.div (at2 x i j) (at2 y i j) := rfl
/-- A maximum of matrices. -/
theorem at2_maximumf (x y : FVec Ideal ⟨2, ![a, b]⟩ .f32) (i j : ℕ) :
    at2 (maximumf x y) i j = max (at2 x i j) (at2 y i j) := rfl
/-- A square root of a matrix. -/
theorem at2_sqrt (x : FVec Ideal ⟨2, ![a, b]⟩ .f32) (i j : ℕ) : at2 (sqrt x) i j = Ideal.sqrt (at2 x i j) := rfl
/-- A constant matrix. -/
theorem at2_broadcast {α : Type} (x : α) (i j : ℕ) : at2 (broadcast (⟨2, ![a, b]⟩ : Shape) x) i j = x := rfl
/-- A selection between two matrices. -/
theorem at2_select {α : Type} (c : IVec ⟨2, ![a, b]⟩ 1) (x y : (⟨2, ![a, b]⟩ : Shape).Idx → α) (i j : ℕ) :
    at2 (select c x y) i j = if at2 c i j = 1#1 then at2 x i j else at2 y i j := rfl

end Pointwise

end Lattice
-- ==== Proof.Block.lean ====
/- What one block of the kernel computes: the body's output buffer read at an index, in terms of the staged blocks. -/
module

public import proofs.«01_k».proof.Proof.Spec
public import proofs.«01_k».proof.Proof.Gen.KernelIdeal.Frame
public import Idealize.ShloMosaic.Lib.StableHlo.Predicate

@[expose] public section

set_option maxRecDepth 4096

noncomputable section

namespace Lattice

open Idealize.ShloMosaic Idealize.ShloMosaic.ValueIdx Cert.KernelIdeal Cert.KernelIdeal.Gen

/-- The twelve rows of positions a block sees: the row above, its own ten rows, the row below. -/
def rows (up mid down : ℕ → ℕ → EReal) (i l : ℕ) : EReal :=
  if i < 1 then up 0 l else if i < 11 then mid (i - 1) l else down 0 l

/-- The eleven rows of vertical springs a block sees: its own ten, and the first of the next block. -/
def below {α : Type} (mid down : ℕ → ℕ → α) (s j : ℕ) : α := if s < 10 then mid s j else down 0 j

/-- The force of the horizontal spring at the right of column `j` in row `i` of the rows `X`. -/
def pullH (X : ℕ → ℕ → EReal) (k r : EReal) (i j d : ℕ) : EReal :=
  tension k r (X i (2 * (j + 1)) - X i (2 * j)) (X i (2 * (j + 1) + 1) - X i (2 * j + 1))
    (X i (2 * (j + 1) + d) - X i (2 * j + d))

/-- The force of the vertical spring from row `s` to row `s + 1` of the rows `X`, in column `j`. -/
def pullV (X : ℕ → ℕ → EReal) (k r : EReal) (s j d : ℕ) : EReal :=
  tension k r (X (s + 1) (2 * j) - X s (2 * j)) (X (s + 1) (2 * j + 1) - X s (2 * j + 1))
    (X (s + 1) (2 * j + d) - X s (2 * j + d))

section Payloads

variable (v0 : Vec Ideal S1x1x800 .f32) (v2 : Vec Ideal S1x10x800 .f32) (v4 : Vec Ideal S1x1x800 .f32)

/-- The rows assembled by the body. -/
abbrev X (v0 : Vec Ideal S1x1x800 .f32) (v2 : Vec Ideal S1x10x800 .f32) (v4 : Vec Ideal S1x1x800 .f32) : ℕ → ℕ → EReal :=
  rows (at3 v0 0) (at3 v2 0) (at3 v4 0)

/-- The assembled rows as pairs of components. -/
theorem at3_pay4 (i j k : ℕ) (hi : i < 12) (hj : j < 400) (hk : k < 2) :
    at3 (k0_pay4 v0 v2 v4) i j k = X v0 v2 v4 i (2 * j + k) := by
  unfold k0_pay4
  dsimp only
  simp (disch := omega) only [at3_split]
  unfold X rows
  split
  · simp (disch := omega) only [at2_tripleRow_fst, at2_drop]
    congr 1
    omega
  · split
    · simp (disch := omega) only [at2_tripleRow_snd, at2_drop]
    · simp (disch := omega) only [at2_tripleRow_thd, at2_drop]
      congr 1
      omega

/-- The first components. -/
theorem at2_pay5 (i j : ℕ) (hi : i < 12) (hj : j < 400) : at2 (k0_pay5 v0 v2 v4) i j = X v0 v2 v4 i (2 * j) := by
  unfold k0_pay5
  dsimp only
  simp (disch := omega) only [at2_dropLast, at3_slice, at3_pay4]
  simp only [Nat.zero_add, Nat.add_zero]

/-- The second components. -/
theorem at2_pay6 (i j : ℕ) (hi : i < 12) (hj : j < 400) : at2 (k0_pay6 v0 v2 v4) i j = X v0 v2 v4 i (2 * j + 1) := by
  unfold k0_pay6
  dsimp only
  simp (disch := omega) only [at2_dropLast, at3_slice, at3_pay4]
  simp only [Nat.zero_add, Nat.add_zero]

/-- The horizontal differences of the first components. -/
theorem at2_pay7 (i j : ℕ) (hi : i < 10) (hj : j < 399) :
    at2 (k0_pay7 v0 v2 v4) i j = X v0 v2 v4 (i + 1) (2 * (j + 1)) - X v0 v2 v4 (i + 1) (2 * j) := by
  unfold k0_pay7
  dsimp only
  simp (disch := omega) only [at2_subf, at2_slice, at2_pay5]
  simp only [Nat.zero_add, Nat.add_comm 1]

/-- The horizontal differences of the second components. -/
theorem at2_pay8 (i j : ℕ) (hi : i < 10) (hj : j < 399) :
    at2 (k0_pay8 v0 v2 v4) i j = X v0 v2 v4 (i + 1) (2 * (j + 1) + 1) - X v0 v2 v4 (i + 1) (2 * j + 1) := by
  unfold k0_pay8
  dsimp only
  simp (disch := omega) only [at2_subf, at2_slice, at2_pay6]
  simp only [Nat.zero_add, Nat.add_comm 1]

variable (kh rh : Vec Ideal S1x10x399 .f32)

/-- The coefficient of a horizontal spring. -/
theorem at2_pay9 (i j : ℕ) :
    at2 (k0_pay9 v0 v2 v4 kh rh) i j
      = Ideal.div (at3 kh 0 i j * (length (at2 (k0_pay7 v0 v2 v4) i j) (at2 (k0_pay8 v0 v2 v4) i j) - at3 rh 0 i j))
          (length (at2 (k0_pay7 v0 v2 v4) i j) (at2 (k0_pay8 v0 v2 v4) i j)) := by
  unfold k0_pay9
  dsimp only
  simp only [at2_subf, at2_divf, at2_mulf, at2_addf, at2_maximumf, at2_sqrt, at2_broadcast, at2_drop]
  rfl

/-- The horizontal springs at an inner column, first component: the pull to the right less the pull to the left. -/
theorem at2_pay11 (i j : ℕ) (hi : i < 10) (hj : 0 < j) (hj' : j < 399) :
    at2 (k0_pay11 v0 v2 v4 kh rh) i j
      = pullH (X v0 v2 v4) (at3 kh 0 i j) (at3 rh 0 i j) (i + 1) j 0
        - pullH (X v0 v2 v4) (at3 kh 0 i (j - 1)) (at3 rh 0 i (j - 1)) (i + 1) (j - 1) 0 := by
  unfold k0_pay11
  dsimp only
  simp (disch := omega) only [at2_subf, at2_pairCol_left, at2_pairCol_right, at2_mulf, at2_pay9, at2_pay7, at2_pay8]
  rfl

/-- The horizontal springs at an inner column, second component. -/
theorem at2_pay12 (i j : ℕ) (hi : i < 10) (hj : 0 < j) (hj' : j < 399) :
    at2 (k0_pay12 v0 v2 v4 kh rh) i j
      = pullH (X v0 v2 v4) (at3 kh 0 i j) (at3 rh 0 i j) (i + 1) j 1
        - pullH (X v0 v2 v4) (at3 kh 0 i (j - 1)) (at3 rh 0 i (j - 1)) (i + 1) (j - 1) 1 := by
  unfold k0_pay12
  dsimp only
  simp (disch := omega) only [at2_subf, at2_pairCol_left, at2_pairCol_right, at2_mulf, at2_pay9, at2_pay7, at2_pay8]
  rfl

end Payloads

/-- A matrix of ten rows with one more below it. -/
theorem at2_below {α : Type} (x : S1x10x400.Idx → α) (y : S1x1x400.Idx → α) (h₁ : S1x10x400.ShapeCasts S10x400)
    (h₂ : S1x1x400.ShapeCasts S1x400) (h : Shape.Concatenates [S10x400, S1x400] S11x400 0) (s j : ℕ) (hs : s < 11) :
    at2 (concatenate S11x400 0 [⟨S10x400, shapeCast S10x400 x h₁⟩, ⟨S1x400, shapeCast S1x400 y h₂⟩] h) s j
      = below (at3 x 0) (at3 y 0) s j := by
  unfold below
  split
  · simp (disch := omega) only [at2_pairRow_left, at2_drop]
  · simp (disch := omega) only [at2_pairRow_right, at2_drop]
    congr 1
    omega

/-- The resultant of the springs at a node, from the two components' rows, the horizontal resultants and the vertical
    springs' constants. -/
theorem at2_pay13 (Z : ℕ → ℕ → EReal) (v9 v11 : FVec Ideal S12x400 .f32) (v38 v41 : FVec Ideal S10x400 .f32)
    (k : Vec Ideal S1x10x400 .f32) (k' : Vec Ideal S1x1x400 .f32) (r : Vec Ideal S1x10x400 .f32) (r' : Vec Ideal S1x1x400 .f32)
    (h9 : ∀ i j, i < 12 → j < 400 → at2 v9 i j = Z i (2 * j))
    (h11 : ∀ i j, i < 12 → j < 400 → at2 v11 i j = Z i (2 * j + 1))
    (i j d : ℕ) (hi : i < 10) (hj : j < 400) (hd : d < 2) :
    at2 (k0_pay13 v9 v11 v38 v41 k k' r r') i (2 * j + d)
      = ((if d = 0 then at2 v38 i j else at2 v41 i j)
          + pullV Z (below (at3 k 0) (at3 k' 0) (i + 1) j) (below (at3 r 0) (at3 r' 0) (i + 1) j) (i + 1) j d)
        - pullV Z (below (at3 k 0) (at3 k' 0) i j) (below (at3 r 0) (at3 r' 0) i j) i j d := by
  unfold k0_pay13
  dsimp only
  simp (disch := omega) only [at2_join]
  rw [show (2 * j + d) / 2 = j by omega, show (2 * j + d) % 2 = d by omega]
  interval_cases d
  · rw [at3_stack_left, at3_addLast]
    simp (disch := omega) only [at2_subf, at2_divf, at2_mulf, at2_addf, at2_maximumf, at2_sqrt, at2_broadcast, at2_slice,
      at2_below, h9, h11, Nat.zero_add, Nat.add_comm 1]
    rfl
  · rw [at3_stack_right, at3_addLast]
    simp (disch := omega) only [at2_subf, at2_divf, at2_mulf, at2_addf, at2_maximumf, at2_sqrt, at2_broadcast, at2_slice,
      at2_below, h9, h11, Nat.zero_add, Nat.add_comm 1]
    rfl

/-- The mask of the nodes that move: the bit at row `r`, lane `l` of block `t` is set exactly at the interior. -/
theorem mask_iff (t r l : ℕ) (ht : t < 25) (hr : r < 10) (hl : l < 800) :
    at2 (k0_pay1 (BitVec.ofNat 32 t)) r l = 1#1 ↔ Interior (10 * t + r) (l / 2) := by
  have e : at2 (k0_pay1 (BitVec.ofNat 32 t)) r l
      = IntOp.andi (IntOp.andi (IntOp.andi (IntOp.cmpi .sgt (10#32 * BitVec.ofNat 32 t + BitVec.ofNat 32 r) 0#32)
          (IntOp.cmpi .slt (10#32 * BitVec.ofNat 32 t + BitVec.ofNat 32 r) 249#32))
          (IntOp.cmpi .sge (BitVec.ofNat 32 l) 2#32)) (IntOp.cmpi .slt (BitVec.ofNat 32 l) 798#32) := by
    unfold k0_pay1
    dsimp only
    show IntOp.andi (IntOp.andi (IntOp.andi (IntOp.cmpi .sgt (10#32 * BitVec.ofNat 32 t + iota _ _ _ _ _ _) 0#32)
          (IntOp.cmpi .slt (10#32 * BitVec.ofNat 32 t + iota _ _ _ _ _ _) 249#32))
          (IntOp.cmpi .sge (iota _ _ _ _ _ _) 2#32)) (IntOp.cmpi .slt (iota _ _ _ _ _ _) 798#32) = _
    rw [iota_single_apply, iota_single_apply]
    show IntOp.andi (IntOp.andi (IntOp.andi (IntOp.cmpi .sgt (10#32 * BitVec.ofNat 32 t + BitVec.ofNat 32 (Fin.ofNat 10 r).val) 0#32)
          (IntOp.cmpi .slt (10#32 * BitVec.ofNat 32 t + BitVec.ofNat 32 (Fin.ofNat 10 r).val) 249#32))
          (IntOp.cmpi .sge (BitVec.ofNat 32 (Fin.ofNat 800 l).val) 2#32)) (IntOp.cmpi .slt (BitVec.ofNat 32 (Fin.ofNat 800 l).val) 798#32) = _
    rw [ofNat_val hr, ofNat_val hl]
  have w : (10#32 * BitVec.ofNat 32 t + BitVec.ofNat 32 r).toNat = 10 * t + r := by
    simp only [BitVec.toNat_add, BitVec.toNat_mul, BitVec.toNat_ofNat]
    omega
  have w' : (BitVec.ofNat 32 l).toNat = l := by simp only [BitVec.toNat_ofNat]; omega
  rw [e, IntOp.andi_eq_one, IntOp.andi_eq_one, IntOp.andi_eq_one, StableHlo.Predicate.sgt_iff_toNat (by omega) (by decide),
    StableHlo.Predicate.slt_iff_toNat (by omega) (by decide), StableHlo.Predicate.sge_iff_toNat (by omega) (by decide),
    StableHlo.Predicate.slt_iff_toNat (by omega) (by decide), w, w']
  unfold Interior
  simp only [BitVec.toNat_ofNat]
  omega

/-! ## The body's output buffer -/

/-- The last row of a block of ten, as the body loads it. -/
theorem at3_ld_last (x : Vec Ideal S1x10x800 .f32) (l : ℕ) : at3 (View.ld x r0_0) 0 0 l = at3 x 0 9 l := by
  unfold at3
  refine congrArg x (funext fun u => Fin.ext ?_)
  match u with
  | ⟨0, _⟩ => rfl
  | ⟨1, _⟩ => rfl
  | ⟨2, _⟩ =>
    show 0 + 1 * (Fin.ofNat 800 l).val = (Fin.ofNat 800 l).val
    omega

/-- The first row of a block of ten, as the body loads it. -/
theorem at3_ld_first (x : Vec Ideal S1x10x800 .f32) (l : ℕ) : at3 (View.ld x r0_2) 0 0 l = at3 x 0 0 l := by
  unfold at3
  refine congrArg x (funext fun u => Fin.ext ?_)
  match u with
  | ⟨0, _⟩ => rfl
  | ⟨1, _⟩ => rfl
  | ⟨2, _⟩ =>
    show 0 + 1 * (Fin.ofNat 800 l).val = (Fin.ofNat 800 l).val
    omega

/-- The first row of a block of vertical springs, as the body loads it. -/
theorem at3_ld_springs (x : Vec Ideal S1x10x400 .f32) (j : ℕ) : at3 (View.ld x r0_5) 0 0 j = at3 x 0 0 j := by
  unfold at3
  refine congrArg x (funext fun u => Fin.ext ?_)
  match u with
  | ⟨0, _⟩ => rfl
  | ⟨1, _⟩ => rfl
  | ⟨2, _⟩ =>
    show 0 + 1 * (Fin.ofNat 400 j).val = (Fin.ofNat 400 j).val
    omega

/-- A block of ten rows loaded whole. -/
theorem ld_rows (x : Vec Ideal S1x10x800 .f32) : View.ld x r0_1 = x :=
  View.ld_unit_zero (funext fun u => by fin_cases u <;> rfl) _ x

/-- A block of horizontal springs loaded whole. -/
theorem ld_springsH (x : Vec Ideal S1x10x399 .f32) : View.ld x r0_3 = x :=
  View.ld_unit_zero (funext fun u => by fin_cases u <;> rfl) _ x

/-- A block of vertical springs loaded whole. -/
theorem ld_springsV (x : Vec Ideal S1x10x400 .f32) : View.ld x r0_4 = x :=
  View.ld_unit_zero (funext fun u => by fin_cases u <;> rfl) _ x

/-- The twelve rows a block sees, from the three staged blocks of positions: the last row of the block above, the
    block itself, the first row of the block below. -/
def window (x0 x1 x2 : Vec Ideal S1x10x800 .f32) (i l : ℕ) : EReal :=
  if i < 1 then at3 x1 0 9 l else if i < 11 then at3 x0 0 (i - 1) l else at3 x2 0 0 l

/-- The rows the body assembles are those. -/
theorem X_loads (x0 x1 x2 : Vec Ideal S1x10x800 .f32) :
    X (View.ld x1 r0_0) x0 (View.ld x2 r0_2) = window x0 x1 x2 := by
  funext i l
  unfold X rows window
  rw [at3_ld_last, at3_ld_first]

/-- The constants of vertical springs a block sees: its own ten rows, then the first row of the next block. -/
def column (x y : Vec Ideal S1x10x400 .f32) (s j : ℕ) : EReal := if s < 10 then at3 x 0 s j else at3 y 0 0 j

/-- The constants the body assembles are those. -/
theorem below_loads (x y : Vec Ideal S1x10x400 .f32) (s j : ℕ) :
    below (at3 x 0) (at3 (View.ld y r0_5) 0) s j = column x y s j := by
  unfold below column
  rw [at3_ld_springs]

section Output

variable (i : grid0.Coords) (x0 x1 x2 x3 x4 x5 : Vec Ideal S1x10x800 .f32) (x6 x7 : Vec Ideal S1x10x399 .f32)
  (x8 x9 x10 x11 : Vec Ideal S1x10x400 .f32)

/-- An index of the first half of the buffer lies outside the second store. -/
theorem not_mem_second (r l : ℕ) : (ix4 (Fin.ofNat 2 0) (Fin.ofNat 1 0) (Fin.ofNat 10 r) (Fin.ofNat 800 l) : S2x1x10x800.Idx) ∉ r0_7.set := by
  intro h
  obtain ⟨y, -, e⟩ := r0_7.mem_set.mp h 0
  change 0 = 1 + 1 * y at e
  omega

/-- An index of the first half of the buffer, as an index of the first store. -/
theorem emb_first (r l : ℕ) :
    (ix4 (Fin.ofNat 2 0) (Fin.ofNat 1 0) (Fin.ofNat 10 r) (Fin.ofNat 800 l) : S2x1x10x800.Idx)
      = r0_6.emb (ix4 (Fin.ofNat 1 0) (Fin.ofNat 1 0) (Fin.ofNat 10 r) (Fin.ofNat 800 l) : S1x1x10x800.Idx) := by
  funext u
  refine Fin.ext ?_
  match u with
  | ⟨0, _⟩ => rfl
  | ⟨1, _⟩ => rfl
  | ⟨2, _⟩ =>
    show (Fin.ofNat 10 r).val = 0 + 1 * (Fin.ofNat 10 r).val
    omega
  | ⟨3, _⟩ =>
    show (Fin.ofNat 800 l).val = 0 + 1 * (Fin.ofNat 800 l).val
    omega

/-- An index of the second half of the buffer, as an index of the second store. -/
theorem emb_second (r l : ℕ) :
    (ix4 (Fin.ofNat 2 1) (Fin.ofNat 1 0) (Fin.ofNat 10 r) (Fin.ofNat 800 l) : S2x1x10x800.Idx)
      = r0_7.emb (ix4 (Fin.ofNat 1 0) (Fin.ofNat 1 0) (Fin.ofNat 10 r) (Fin.ofNat 800 l) : S1x1x10x800.Idx) := by
  funext u
  refine Fin.ext ?_
  match u with
  | ⟨0, _⟩ => rfl
  | ⟨1, _⟩ => rfl
  | ⟨2, _⟩ =>
    show (Fin.ofNat 10 r).val = 0 + 1 * (Fin.ofNat 10 r).val
    omega
  | ⟨3, _⟩ =>
    show (Fin.ofNat 800 l).val = 0 + 1 * (Fin.ofNat 800 l).val
    omega

/-- Two stores, read at an index of the earlier one that the later one does not write. -/
theorem canon_earlier {s : Shape} (R R' : Rect s) (q : R.shape.Idx → Elt Ideal .f32) (p : R'.shape.Idx → Elt Ideal .f32)
    (x : R'.shape.Idx) (y : s.Idx) (e : y = R'.emb x) (h : y ∉ R.set) :
    View.canon (Val := Elt Ideal) (e := .f32) [⟨R, q⟩, ⟨R', p⟩] y = p x := by
  subst e
  exact (View.canon_cons_of_not_mem _ _ h).trans (View.canon_cons_emb R' p [] x)

/-- Two stores, read at an index of the later one. -/
theorem canon_later {s : Shape} (R R' : Rect s) (q : R.shape.Idx → Elt Ideal .f32) (p : R'.shape.Idx → Elt Ideal .f32)
    (x : R.shape.Idx) (y : s.Idx) (e : y = R.emb x) :
    View.canon (Val := Elt Ideal) (e := .f32) [⟨R, q⟩, ⟨R', p⟩] y = q x := by
  subst e
  exact View.canon_cons_emb R q [⟨R', p⟩] x

/-- The buffer after the two stores, in its first half. -/
theorem canon_first (p q : FVec Ideal S1x1x10x800 .f32) (r l : ℕ) :
    at4 (View.canon (Val := Elt Ideal) (e := .f32) [⟨r0_7, q⟩, ⟨r0_6, p⟩]) 0 0 r l = at4 p 0 0 r l := by
  unfold at4
  exact canon_earlier r0_7 r0_6 q p _ _ (emb_first r l) (not_mem_second r l)

/-- The buffer after the two stores, in its second half. -/
theorem canon_second (p q : FVec Ideal S1x1x10x800 .f32) (r l : ℕ) :
    at4 (View.canon (Val := Elt Ideal) (e := .f32) [⟨r0_7, q⟩, ⟨r0_6, p⟩]) 1 0 r l = at4 q 0 0 r l := by
  unfold at4
  exact canon_later r0_7 r0_6 q p _ _ (emb_second r l)

/-- The first half of a block's result: the velocity at an interior node, zero on the border. -/
theorem out_velocity (r l : ℕ) (hr : r < 10) (hl : l < 800) (ht : (i 0).val < 25) :
    at4 (out0_12 i x0 x1 x2 x3 x4 x5 x6 x7 x8 x9 x10 x11) 0 0 r l
      = if Interior (10 * (i 0).val + r) (l / 2) then at3 x3 0 r l else 0 := by
  unfold out0_12
  rw [canon_first]
  unfold k0_pay2 k0_pay15 k0_pay14
  dsimp only
  rw [at4_add, at2_select, at2_drop, at2_broadcast, ld_rows]
  simp only [mask_iff _ _ _ ht hr hl]
  congr 1
  exact Ideal.ofBits_zero_f32

/-- The second half of a block's result: at an interior node the resultant of its four springs, less the damping, over
    the mass; zero on the border. -/
theorem out_acceleration (r j d : ℕ) (hr : r < 10) (hj : j < 400) (hd : d < 2) (ht : (i 0).val < 25) :
    at4 (out0_12 i x0 x1 x2 x3 x4 x5 x6 x7 x8 x9 x10 x11) 1 0 r (2 * j + d)
      = if Interior (10 * (i 0).val + r) j then
          Ideal.div
            ((((pullH (window x0 x1 x2) (at3 x6 0 r j) (at3 x7 0 r j) (r + 1) j d
                  - pullH (window x0 x1 x2) (at3 x6 0 r (j - 1)) (at3 x7 0 r (j - 1)) (r + 1) (j - 1) d)
                + pullV (window x0 x1 x2) (column x8 x9 (r + 1) j) (column x10 x11 (r + 1) j) (r + 1) j d)
              - pullV (window x0 x1 x2) (column x8 x9 r j) (column x10 x11 r j) r j d)
              - at3 x5 0 r (2 * j + d) * at3 x3 0 r (2 * j + d))
            (at3 x4 0 r (2 * j + d))
        else 0 := by
  have hm := mask_iff (i 0).val r (2 * j + d) ht hr (by omega)
  rw [show (2 * j + d) / 2 = j by omega] at hm
  unfold out0_12
  rw [canon_second]
  unfold k0_pay3 k0_pay15 k0_pay14
  dsimp only
  rw [at4_add, at2_select, at2_divf, at2_subf, at2_mulf, at2_drop, at2_drop, at2_drop, at2_broadcast]
  simp only [hm]
  by_cases hI : Interior (10 * (i 0).val + r) j
  · rw [if_pos hI, if_pos hI]
    obtain ⟨-, -, h0, h1⟩ := hI
    rw [at2_pay13 (window x0 x1 x2) _ _ _ _ _ _ _ _
      (fun a b ha hb => by rw [at2_pay5 _ _ _ _ _ ha hb, ld_rows, X_loads])
      (fun a b ha hb => by rw [at2_pay6 _ _ _ _ _ ha hb, ld_rows, X_loads]) r j d hr hj hd,
      at2_pay11 _ _ _ _ _ _ _ hr h0 h1, at2_pay12 _ _ _ _ _ _ _ hr h0 h1]
    simp only [ld_rows, ld_springsH, ld_springsV, X_loads]
    congr 4
    · interval_cases d <;> rfl
    · exact congrArg₂ (fun a b => pullV (window x0 x1 x2) a b (r + 1) j d) (below_loads _ _ _ _) (below_loads _ _ _ _)
    · exact below_loads _ _ _ _
    · exact below_loads _ _ _ _
  · rw [if_neg hI, if_neg hI]
    exact Ideal.ofBits_zero_f32

end Output

end Lattice
-- ==== Proof.Arrays.lean ====
/- What the pipeline's input arrays hold when the region is entered, and what each grid point's blocks of them hold,
   in terms of the arguments. -/
module

public import proofs.«01_k».proof.Proof.Read
public import proofs.«01_k».proof.Proof.Gen.KernelIdeal.Frame
public import Idealize.ShloMosaic.Lib.Pipeline.Value

@[expose] public section

set_option maxRecDepth 4096

noncomputable section

namespace Lattice

open Idealize.ShloMosaic Idealize.ShloMosaic.ValueIdx Idealize.ShloMosaic.TcCoe
open Cert.KernelIdeal Cert.KernelIdeal.Gen

variable (m : (ℓ : Loc nD τ sig) → Buf (Elt Ideal) ℓ) (c : Dev nD)

/-- The state vector: 200000 positions, then 200000 velocities. -/
abbrev stateOf (p : ℕ) : EReal := at1 (m ((c : Thread nD τ).loc main_arg1) : Vec Ideal S400000 .f32) p
/-- The masses, by component. -/
abbrev massOf (n d : ℕ) : EReal := at2 (m ((c : Thread nD τ).loc main_arg2) : Vec Ideal S100000x2 .f32) n d
/-- The spring constants. -/
abbrev stiffOf (e : ℕ) : EReal := at1 (m ((c : Thread nD τ).loc main_arg3) : Vec Ideal S199350 .f32) e
/-- The damping coefficients, by component. -/
abbrev dampOf (n d : ℕ) : EReal := at2 (m ((c : Thread nD τ).loc main_arg4) : Vec Ideal S100000x2 .f32) n d
/-- The rest lengths. -/
abbrev restOf (e : ℕ) : EReal := at1 (m ((c : Thread nD τ).loc main_arg6) : Vec Ideal S199350 .f32) e

/-! ## The arrays at the region's entry -/

/-- A slice of a vector, laid out as blocks of ten rows. -/
theorem at3_sliced {α : Type} {a p n : ℕ} [NeZero a] [NeZero p] [NeZero n] (x : (⟨1, ![a]⟩ : Shape).Idx → α) (o : ℕ)
    (h : (⟨1, ![a]⟩ : Shape).Slices ![o] ⟨1, ![p]⟩) (h' : (⟨1, ![p]⟩ : Shape).ShapeCasts ⟨3, ![25, 10, n]⟩)
    (hp : p = 250 * n) (t r l : ℕ) (ht : t < 25) (hr : r < 10) (hl : l < n) :
    at3 (shapeCast ⟨3, ![25, 10, n]⟩ (extractStridedSlice ⟨1, ![p]⟩ ![o] x h) h') t r l
      = at1 x (o + n * (10 * t + r) + l) := by
  have hk : n * (10 * t + r) + l < p := by
    have := Nat.mul_le_mul_left n (show 10 * t + r ≤ 249 by omega)
    omega
  have e : (t * 10 + r) * n + l = n * (10 * t + r) + l := by ring
  rw [at3_cast1 _ _ _ _ _ ht hr hl (by omega), at1_slice _ _ _ _ (by omega), e, Nat.add_assoc]

/-- An array of node pairs, laid out as blocks of ten rows. -/
theorem at3_pairs {α : Type} (x : (⟨2, ![100000, 2]⟩ : Shape).Idx → α)
    (h : (⟨2, ![100000, 2]⟩ : Shape).ShapeCasts ⟨3, ![25, 10, 800]⟩) (t r l : ℕ) (ht : t < 25) (hr : r < 10) (hl : l < 800) :
    at3 (shapeCast ⟨3, ![25, 10, 800]⟩ x h) t r l = at2 x (400 * (10 * t + r) + l / 2) (l % 2) := by
  rw [at3_cast2 _ _ _ _ _ ht hr hl (by omega)]
  congr 1 <;> omega

section Entry

variable (t r l : ℕ) (ht : t < 25) (hr : r < 10)
include ht hr

/-- The array of positions. -/
theorem entry_position (hl : l < 800) :
    at3 (V m c main_v1 : Vec Ideal S25x10x800 .f32) t r l = stateOf m c (0 + 800 * (10 * t + r) + l) := by
  show at3 (StableHlo.after hostOps0 _ (Proc.devRef .tc main_v1) : Vec Ideal S25x10x800 .f32) t r l = _
  after_results
  exact at3_sliced _ 0 _ _ rfl t r l ht hr hl

/-- The array of velocities. -/
theorem entry_velocity (hl : l < 800) :
    at3 (V m c main_v3 : Vec Ideal S25x10x800 .f32) t r l = stateOf m c (200000 + 800 * (10 * t + r) + l) := by
  show at3 (StableHlo.after hostOps0 _ (Proc.devRef .tc main_v3) : Vec Ideal S25x10x800 .f32) t r l = _
  after_results
  exact at3_sliced _ 200000 _ _ rfl t r l ht hr hl

/-- The array of masses. -/
theorem entry_mass (hl : l < 800) : at3 (V m c main_v4 : Vec Ideal S25x10x800 .f32) t r l
    = massOf m c (400 * (10 * t + r) + l / 2) (l % 2) := by
  show at3 (StableHlo.after hostOps0 _ (Proc.devRef .tc main_v4) : Vec Ideal S25x10x800 .f32) t r l = _
  after_results
  exact at3_pairs _ _ t r l ht hr hl

/-- The array of damping coefficients. -/
theorem entry_damp (hl : l < 800) : at3 (V m c main_v5 : Vec Ideal S25x10x800 .f32) t r l
    = dampOf m c (400 * (10 * t + r) + l / 2) (l % 2) := by
  show at3 (StableHlo.after hostOps0 _ (Proc.devRef .tc main_v5) : Vec Ideal S25x10x800 .f32) t r l = _
  after_results
  exact at3_pairs _ _ t r l ht hr hl

/-- The array of the horizontal springs' constants. -/
theorem entry_stiffH (hl : l < 399) :
    at3 (V m c main_v7 : Vec Ideal S25x10x399 .f32) t r l = stiffOf m c (0 + 399 * (10 * t + r) + l) := by
  show at3 (StableHlo.after hostOps0 _ (Proc.devRef .tc main_v7) : Vec Ideal S25x10x399 .f32) t r l = _
  after_results
  exact at3_sliced _ 0 _ _ rfl t r l ht hr hl

/-- The array of the horizontal springs' rest lengths. -/
theorem entry_restH (hl : l < 399) :
    at3 (V m c main_v9 : Vec Ideal S25x10x399 .f32) t r l = restOf m c (0 + 399 * (10 * t + r) + l) := by
  show at3 (StableHlo.after hostOps0 _ (Proc.devRef .tc main_v9) : Vec Ideal S25x10x399 .f32) t r l = _
  after_results
  exact at3_sliced _ 0 _ _ rfl t r l ht hr hl

/-- The array of the vertical springs' constants: its row `i` holds the springs that end in row `i`, and its row 0 is
    the tail of the horizontal ones. -/
theorem entry_stiffV (hl : l < 400) :
    at3 (V m c main_v11 : Vec Ideal S25x10x400 .f32) t r l = stiffOf m c (99350 + 400 * (10 * t + r) + l) := by
  show at3 (StableHlo.after hostOps0 _ (Proc.devRef .tc main_v11) : Vec Ideal S25x10x400 .f32) t r l = _
  after_results
  exact at3_sliced _ 99350 _ _ rfl t r l ht hr hl

/-- The array of the vertical springs' rest lengths, laid out likewise. -/
theorem entry_restV (hl : l < 400) :
    at3 (V m c main_v13 : Vec Ideal S25x10x400 .f32) t r l = restOf m c (99350 + 400 * (10 * t + r) + l) := by
  show at3 (StableHlo.after hostOps0 _ (Proc.devRef .tc main_v13) : Vec Ideal S25x10x400 .f32) t r l = _
  after_results
  exact at3_sliced _ 99350 _ _ rfl t r l ht hr hl

end Entry

/-! ## The blocks a grid point reads -/

/-- A block of ten rows of an array, where an element of the block lies at the block's offset. -/
theorem at3_block {α : Type} {n : ℕ} [NeZero n] (A : (⟨3, ![25, 10, n]⟩ : Shape).Idx → α)
    (B : (⟨3, ![1, 10, n]⟩ : Shape).Idx → α) (e : (⟨3, ![1, 10, n]⟩ : Shape).Idx → (⟨3, ![25, 10, n]⟩ : Shape).Idx)
    (hB : ∀ y, B y = A (e y)) (b : ℕ) (hb : b < 25) (ix : Fin 3 → ℕ) (hix : ix = ![b, 0, 0])
    (he : ∀ y (a : Fin 3), (e y a).val = ix a * (![1, 10, n] : Fin 3 → ℕ) a + (y a).val)
    (r l : ℕ) (hr : r < 10) (hl : l < n) : at3 B 0 r l = at3 A b r l := by
  subst hix
  unfold at3
  rw [hB]
  refine congrArg A (funext fun a => Fin.ext ((he _ a).trans ?_))
  match a with
  | ⟨0, _⟩ =>
    show b * 1 + (Fin.ofNat 1 0).val = (Fin.ofNat 25 b).val
    rw [ofNat_val hb]
    simp
  | ⟨1, _⟩ =>
    show 0 * 10 + (Fin.ofNat 10 r).val = (Fin.ofNat 10 r).val
    omega
  | ⟨2, _⟩ =>
    show 0 * n + (Fin.ofNat n l).val = (Fin.ofNat n l).val
    omega

/-- The windows that move with the grid point. -/
theorem here : ∀ t : Fin grid0.N, win0_0.index t = ![t.val, 0, 0] ∧ win0_3.index t = ![t.val, 0, 0] ∧ win0_4.index t = ![t.val, 0, 0]
    ∧ win0_5.index t = ![t.val, 0, 0] ∧ win0_6.index t = ![t.val, 0, 0] ∧ win0_7.index t = ![t.val, 0, 0]
    ∧ win0_8.index t = ![t.val, 0, 0] ∧ win0_10.index t = ![t.val, 0, 0] := by
  decide +kernel

/-- The window that stays one block behind, but for the first point. -/
theorem behind : ∀ t : Fin grid0.N, win0_1.index t = ![t.val - 1, 0, 0] := by
  decide +kernel

/-- The windows that run one block ahead, but for the last point. -/
theorem ahead : ∀ t : Fin grid0.N, win0_2.index t = ![min (t.val + 1) 24, 0, 0]
    ∧ win0_9.index t = ![min (t.val + 1) 24, 0, 0] ∧ win0_11.index t = ![min (t.val + 1) 24, 0, 0] := by
  decide +kernel

/-- The three block indices lie within the grid. -/
theorem in_grid (t : Fin grid0.N) : t.val < 25 ∧ t.val - 1 < 25 ∧ min (t.val + 1) 24 < 25 := by
  have ht : t.val < 25 := t.isLt
  omega

section Blocks

variable (t : Fin grid0.N) (r l : ℕ) (hr : r < 10)
include hr

/-- The own rows' positions. -/
theorem block_position (hl : l < 800) : at3 (iblk m c 0 t : Vec Ideal S1x10x800 .f32) 0 r l
    = stateOf m c (0 + 800 * (10 * t.val + r) + l) :=
  (at3_block _ _ (win0_0.rect t).emb (fun _ => rfl) _ (in_grid t).1 _ (here t).1
    (fun y a => win0_0.rect_emb_val t y a) r l hr hl).trans (entry_position m c _ r l (in_grid t).1 hr hl)

/-- The positions of the block above (the first block is its own). -/
theorem block_position_up (hl : l < 800) : at3 (iblk m c 1 t : Vec Ideal S1x10x800 .f32) 0 r l
    = stateOf m c (0 + 800 * (10 * (t.val - 1) + r) + l) :=
  (at3_block _ _ (win0_1.rect t).emb (fun _ => rfl) _ (in_grid t).2.1 _ (behind t)
    (fun y a => win0_1.rect_emb_val t y a) r l hr hl).trans (entry_position m c _ r l (in_grid t).2.1 hr hl)

/-- The positions of the block below (the last block is its own). -/
theorem block_position_down (hl : l < 800) : at3 (iblk m c 2 t : Vec Ideal S1x10x800 .f32) 0 r l
    = stateOf m c (0 + 800 * (10 * (min (t.val + 1) 24) + r) + l) :=
  (at3_block _ _ (win0_2.rect t).emb (fun _ => rfl) _ (in_grid t).2.2 _ (ahead t).1
    (fun y a => win0_2.rect_emb_val t y a) r l hr hl).trans (entry_position m c _ r l (in_grid t).2.2 hr hl)

/-- The velocities. -/
theorem block_velocity (hl : l < 800) : at3 (iblk m c 3 t : Vec Ideal S1x10x800 .f32) 0 r l
    = stateOf m c (200000 + 800 * (10 * t.val + r) + l) :=
  (at3_block _ _ (win0_3.rect t).emb (fun _ => rfl) _ (in_grid t).1 _ (here t).2.1
    (fun y a => win0_3.rect_emb_val t y a) r l hr hl).trans (entry_velocity m c _ r l (in_grid t).1 hr hl)

/-- The masses. -/
theorem block_mass (hl : l < 800) : at3 (iblk m c 4 t : Vec Ideal S1x10x800 .f32) 0 r l
    = massOf m c (400 * (10 * t.val + r) + l / 2) (l % 2) :=
  (at3_block _ _ (win0_4.rect t).emb (fun _ => rfl) _ (in_grid t).1 _ (here t).2.2.1
    (fun y a => win0_4.rect_emb_val t y a) r l hr hl).trans (entry_mass m c _ r l (in_grid t).1 hr hl)

/-- The damping coefficients. -/
theorem block_damp (hl : l < 800) : at3 (iblk m c 5 t : Vec Ideal S1x10x800 .f32) 0 r l
    = dampOf m c (400 * (10 * t.val + r) + l / 2) (l % 2) :=
  (at3_block _ _ (win0_5.rect t).emb (fun _ => rfl) _ (in_grid t).1 _ (here t).2.2.2.1
    (fun y a => win0_5.rect_emb_val t y a) r l hr hl).trans (entry_damp m c _ r l (in_grid t).1 hr hl)

/-- The horizontal springs' constants. -/
theorem block_stiffH (hl : l < 399) : at3 (iblk m c 6 t : Vec Ideal S1x10x399 .f32) 0 r l
    = stiffOf m c (0 + 399 * (10 * t.val + r) + l) :=
  (at3_block _ _ (win0_6.rect t).emb (fun _ => rfl) _ (in_grid t).1 _ (here t).2.2.2.2.1
    (fun y a => win0_6.rect_emb_val t y a) r l hr hl).trans (entry_stiffH m c _ r l (in_grid t).1 hr hl)

/-- The horizontal springs' rest lengths. -/
theorem block_restH (hl : l < 399) : at3 (iblk m c 7 t : Vec Ideal S1x10x399 .f32) 0 r l
    = restOf m c (0 + 399 * (10 * t.val + r) + l) :=
  (at3_block _ _ (win0_7.rect t).emb (fun _ => rfl) _ (in_grid t).1 _ (here t).2.2.2.2.2.1
    (fun y a => win0_7.rect_emb_val t y a) r l hr hl).trans (entry_restH m c _ r l (in_grid t).1 hr hl)

/-- The vertical springs' constants. -/
theorem block_stiffV (hl : l < 400) : at3 (iblk m c 8 t : Vec Ideal S1x10x400 .f32) 0 r l
    = stiffOf m c (99350 + 400 * (10 * t.val + r) + l) :=
  (at3_block _ _ (win0_8.rect t).emb (fun _ => rfl) _ (in_grid t).1 _ (here t).2.2.2.2.2.2.1
    (fun y a => win0_8.rect_emb_val t y a) r l hr hl).trans (entry_stiffV m c _ r l (in_grid t).1 hr hl)

/-- The vertical springs' constants in the block below. -/
theorem block_stiffV_down (hl : l < 400) : at3 (iblk m c 9 t : Vec Ideal S1x10x400 .f32) 0 r l
    = stiffOf m c (99350 + 400 * (10 * (min (t.val + 1) 24) + r) + l) :=
  (at3_block _ _ (win0_9.rect t).emb (fun _ => rfl) _ (in_grid t).2.2 _ (ahead t).2.1
    (fun y a => win0_9.rect_emb_val t y a) r l hr hl).trans (entry_stiffV m c _ r l (in_grid t).2.2 hr hl)

/-- The vertical springs' rest lengths. -/
theorem block_restV (hl : l < 400) : at3 (iblk m c 10 t : Vec Ideal S1x10x400 .f32) 0 r l
    = restOf m c (99350 + 400 * (10 * t.val + r) + l) :=
  (at3_block _ _ (win0_10.rect t).emb (fun _ => rfl) _ (in_grid t).1 _ (here t).2.2.2.2.2.2.2
    (fun y a => win0_10.rect_emb_val t y a) r l hr hl).trans (entry_restV m c _ r l (in_grid t).1 hr hl)

/-- The vertical springs' rest lengths in the block below. -/
theorem block_restV_down (hl : l < 400) : at3 (iblk m c 11 t : Vec Ideal S1x10x400 .f32) 0 r l
    = restOf m c (99350 + 400 * (10 * (min (t.val + 1) 24) + r) + l) :=
  (at3_block _ _ (win0_11.rect t).emb (fun _ => rfl) _ (in_grid t).2.2 _ (ahead t).2.2
    (fun y a => win0_11.rect_emb_val t y a) r l hr hl).trans (entry_restV m c _ r l (in_grid t).2.2 hr hl)

end Blocks

end Lattice
-- ==== Proof.Result.lean ====
/- What the kernel's result holds: the derivative of the state, element by element. -/
module

public import proofs.«01_k».proof.Proof.Block
public import proofs.«01_k».proof.Proof.Arrays

@[expose] public section

set_option maxRecDepth 4096

noncomputable section

namespace Lattice

open Idealize.ShloMosaic Idealize.ShloMosaic.ValueIdx Idealize.ShloMosaic.TcCoe
open Cert.KernelIdeal Cert.KernelIdeal.Gen Idealize.SL.Sem

variable (m : (ℓ : Loc nD τ sig) → Buf (Elt Ideal) ℓ) (c : Dev nD)

/-! ## A block of the output in terms of the arguments -/

/-- The twelve rows that block `t` sees, where they lie in the lattice. -/
theorem window_state (t : Fin grid0.N) (i l : ℕ) (hi : i < 12) (h1 : 1 ≤ 10 * t.val + i) (h2 : 10 * t.val + i ≤ 250)
    (hl : l < 800) :
    window (iblk m c 0 t) (iblk m c 1 t) (iblk m c 2 t) i l = stateOf m c (800 * (10 * t.val + i - 1) + l) := by
  unfold window
  split
  · rw [block_position_up m c t 9 l (by omega) hl]
    congr 1
    omega
  · split
    · rw [block_position m c t (i - 1) l (by omega) hl]
      congr 1
      omega
    · rw [block_position_down m c t 0 l (by omega) hl]
      congr 1
      omega

/-- The constants of the vertical springs that block `t` sees. -/
theorem column_stiff (t : Fin grid0.N) (s j : ℕ) (hs : s < 11) (h : 10 * t.val + s < 250) (hj : j < 400) :
    column (iblk m c 8 t) (iblk m c 9 t) s j = stiffOf m c (99350 + (400 * (10 * t.val + s) + j)) := by
  unfold column
  split
  · rw [block_stiffV m c t s j (by omega) hj]
    congr 1
    omega
  · rw [block_stiffV_down m c t 0 j (by omega) hj]
    congr 1
    omega

/-- The rest lengths of the vertical springs that block `t` sees. -/
theorem column_rest (t : Fin grid0.N) (s j : ℕ) (hs : s < 11) (h : 10 * t.val + s < 250) (hj : j < 400) :
    column (iblk m c 10 t) (iblk m c 11 t) s j = restOf m c (99350 + (400 * (10 * t.val + s) + j)) := by
  unfold column
  split
  · rw [block_restV m c t s j (by omega) hj]
    congr 1
    omega
  · rw [block_restV_down m c t 0 j (by omega) hj]
    congr 1
    omega

/-- The horizontal spring that a block computes is the lattice's, when the two nodes' positions are. -/
theorem pullH_spring (X : ℕ → ℕ → EReal) (S K R : ℕ → EReal) (e i j d p q : ℕ) (hd : d < 2)
    (hp : ∀ k, k < 2 → X i (2 * j + k) = S (2 * p + k)) (hq : ∀ k, k < 2 → X i (2 * (j + 1) + k) = S (2 * q + k)) :
    pullH X (K e) (R e) i j d = spring S K R e p q d := by
  have hp0 : X i (2 * j) = S (2 * p) := hp 0 (by omega)
  have hq0 : X i (2 * (j + 1)) = S (2 * q) := hq 0 (by omega)
  unfold pullH spring
  rw [hp0, hq0, hp 1 (by omega), hq 1 (by omega), hp d hd, hq d hd]

/-- The vertical spring that a block computes is the lattice's, when the two nodes' positions are. -/
theorem pullV_spring (X : ℕ → ℕ → EReal) (S K R : ℕ → EReal) (e s j d p q : ℕ) (hd : d < 2)
    (hp : ∀ k, k < 2 → X s (2 * j + k) = S (2 * p + k)) (hq : ∀ k, k < 2 → X (s + 1) (2 * j + k) = S (2 * q + k)) :
    pullV X (K e) (R e) s j d = spring S K R e p q d := by
  have hp0 : X s (2 * j) = S (2 * p) := hp 0 (by omega)
  have hq0 : X (s + 1) (2 * j) = S (2 * q) := hq 0 (by omega)
  unfold pullV spring
  rw [hp0, hq0, hp 1 (by omega), hq 1 (by omega), hp d hd, hq d hd]

/-- A row that block `t` sees holds its nodes' positions. -/
theorem window_node (t : Fin grid0.N) (i j k n : ℕ) (hi : i < 12) (h1 : 1 ≤ 10 * t.val + i) (h2 : 10 * t.val + i ≤ 250)
    (hj : j < 400) (hk : k < 2) (hn : n = 400 * (10 * t.val + i - 1) + j) :
    window (iblk m c 0 t) (iblk m c 1 t) (iblk m c 2 t) i (2 * j + k) = stateOf m c (2 * n + k) := by
  rw [window_state m c t i _ hi h1 h2 (by omega)]
  congr 1
  omega

/-- A grid point's one coordinate is its number. -/
theorem point : ∀ t : Fin grid0.N, (grid0.coords t 0).val = t.val := by
  decide +kernel

/-- The acceleration that grid point `t` computes at an interior node. -/
theorem acceleration_block (t : Fin grid0.N) (r j d : ℕ) (hr : r < 10) (hd : d < 2) (h1 : 0 < 10 * t.val + r)
    (h2 : 10 * t.val + r < 249) (h3 : 0 < j) (h4 : j < 399) :
    Ideal.div ((((pullH (window (iblk m c 0 t) (iblk m c 1 t) (iblk m c 2 t)) (at3 (iblk m c 6 t : Vec Ideal S1x10x399 .f32) 0 r j)
              (at3 (iblk m c 7 t : Vec Ideal S1x10x399 .f32) 0 r j) (r + 1) j d
            - pullH (window (iblk m c 0 t) (iblk m c 1 t) (iblk m c 2 t)) (at3 (iblk m c 6 t : Vec Ideal S1x10x399 .f32) 0 r (j - 1))
              (at3 (iblk m c 7 t : Vec Ideal S1x10x399 .f32) 0 r (j - 1)) (r + 1) (j - 1) d)
            + pullV (window (iblk m c 0 t) (iblk m c 1 t) (iblk m c 2 t)) (column (iblk m c 8 t) (iblk m c 9 t) (r + 1) j)
              (column (iblk m c 10 t) (iblk m c 11 t) (r + 1) j) (r + 1) j d)
          - pullV (window (iblk m c 0 t) (iblk m c 1 t) (iblk m c 2 t)) (column (iblk m c 8 t) (iblk m c 9 t) r j)
              (column (iblk m c 10 t) (iblk m c 11 t) r j) r j d)
          - at3 (α := EReal) (iblk m c 5 t : Vec Ideal S1x10x800 .f32) 0 r (2 * j + d)
              * stateOf m c (200000 + (2 * (400 * (10 * t.val + r) + j) + d)))
        (at3 (α := EReal) (iblk m c 4 t : Vec Ideal S1x10x800 .f32) 0 r (2 * j + d))
      = acceleration (stateOf m c) (stiffOf m c) (restOf m c) (massOf m c) (dampOf m c) (10 * t.val + r) j d := by
  have el : (2 * j + d) / 2 = j := by omega
  have ed : (2 * j + d) % 2 = d := by omega
  rw [block_mass m c t r _ hr (by omega), block_damp m c t r _ hr (by omega), el, ed,
    block_stiffH m c t r j hr (by omega), block_restH m c t r j hr (by omega),
    block_stiffH m c t r (j - 1) hr (by omega), block_restH m c t r (j - 1) hr (by omega),
    column_stiff m c t (r + 1) j (by omega) (by omega) (by omega), column_rest m c t (r + 1) j (by omega) (by omega) (by omega),
    column_stiff m c t r j (by omega) (by omega) (by omega), column_rest m c t r j (by omega) (by omega) (by omega),
    pullH_spring _ (stateOf m c) (stiffOf m c) (restOf m c) _ (r + 1) j d (400 * (10 * t.val + r) + j) (400 * (10 * t.val + r) + j + 1) hd
      (fun k hk => window_node m c t (r + 1) j k _ (by omega) (by omega) (by omega) (by omega) hk (by omega))
      (fun k hk => window_node m c t (r + 1) (j + 1) k _ (by omega) (by omega) (by omega) (by omega) hk (by omega)),
    pullH_spring _ (stateOf m c) (stiffOf m c) (restOf m c) _ (r + 1) (j - 1) d (400 * (10 * t.val + r) + j - 1) (400 * (10 * t.val + r) + j) hd
      (fun k hk => window_node m c t (r + 1) (j - 1) k _ (by omega) (by omega) (by omega) (by omega) hk (by omega))
      (fun k hk => window_node m c t (r + 1) (j - 1 + 1) k _ (by omega) (by omega) (by omega) (by omega) hk (by omega)),
    pullV_spring _ (stateOf m c) (stiffOf m c) (restOf m c) _ (r + 1) j d (400 * (10 * t.val + r) + j) (400 * (10 * t.val + r) + j + 400) hd
      (fun k hk => window_node m c t (r + 1) j k _ (by omega) (by omega) (by omega) (by omega) hk (by omega))
      (fun k hk => window_node m c t (r + 1 + 1) j k _ (by omega) (by omega) (by omega) (by omega) hk (by omega)),
    pullV_spring _ (stateOf m c) (stiffOf m c) (restOf m c) _ r j d (400 * (10 * t.val + r) + j - 400) (400 * (10 * t.val + r) + j) hd
      (fun k hk => window_node m c t r j k _ (by omega) (by omega) (by omega) (by omega) hk (by omega))
      (fun k hk => window_node m c t (r + 1) j k _ (by omega) (by omega) (by omega) (by omega) hk (by omega))]
  unfold acceleration
  have e1 : 0 + 399 * (10 * t.val + r) + j = 399 * (10 * t.val + r) + j := by omega
  have e2 : 0 + 399 * (10 * t.val + r) + (j - 1) = 399 * (10 * t.val + r) + j - 1 := by omega
  have e3 : 99350 + (400 * (10 * t.val + (r + 1)) + j) = 99750 + (400 * (10 * t.val + r) + j) := by omega
  rw [e1, e2, e3]

/-- What grid point `t` leaves in the output's staging buffer: the derivative at its nodes. -/
theorem out_block (t : Fin grid0.N) (w r j d : ℕ) (hw : w < 2) (hr : r < 10) (hj : j < 400) (hd : d < 2) :
    at4 (out0_12 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t)) w 0 r (2 * j + d)
      = derivative (stateOf m c) (stiffOf m c) (restOf m c) (massOf m c) (dampOf m c) w (10 * t.val + r) j d := by
  have ht : t.val < 25 := t.isLt
  have hc : (grid0.coords t 0).val = t.val := point t
  have hv : at3 (iblk m c 3 t : Vec Ideal S1x10x800 .f32) 0 r (2 * j + d)
      = stateOf m c (200000 + (2 * (400 * (10 * t.val + r) + j) + d)) := by
    rw [block_velocity m c t r _ hr (by omega)]
    congr 1
    omega
  obtain rfl | rfl : w = 0 ∨ w = 1 := by omega
  · rw [out_velocity _ _ _ _ _ _ _ _ _ _ _ _ _ r (2 * j + d) hr (by omega) (by omega), hc, hv,
      show (2 * j + d) / 2 = j by omega]
    rfl
  · rw [out_acceleration _ _ _ _ _ _ _ _ _ _ _ _ _ r j d hr hj hd (by omega), hc, hv]
    unfold derivative
    by_cases hI : Interior (10 * t.val + r) j
    swap
    · rw [if_neg hI, if_neg hI]
    obtain ⟨h1, h2, h3, h4⟩ := id hI
    rw [if_pos hI, if_pos hI, if_neg (by decide), acceleration_block m c t r j d hr hd h1 h2 h3 h4]

/-! ## The output array -/

/-- Point `t` writes block `t` of the output. -/
theorem out_index : ∀ t : Fin grid0.N, win0_12.index t = ![0, t.val, 0, 0] := by
  decide +kernel

/-- Distinct points write distinct blocks. -/
theorem out_disjoint (t t' : Fin cfg0.N) (_ : (cfg0.win 12).flush t = true) (_ : (cfg0.win 12).flush t' = true)
    (hne : t ≠ t') : Disjoint ((cfg0.win 12).blk t).view.set ((cfg0.win 12).blk t').view.set := by
  refine (cfg0.win 12).disjoint_blk fun h => hne ?_
  have h' : win0_12.index t = win0_12.index t' := h
  rw [out_index t, out_index t'] at h'
  exact Fin.ext (congrFun h' 1)

/-- Block `b` of an array of blocks of ten rows, in two planes, where an element of the block lies at the block's offset. -/
theorem at4_block {α : Type} (A : S2x25x10x800.Idx → α) (B : S2x1x10x800.Idx → α) (e : S2x1x10x800.Idx → S2x25x10x800.Idx)
    (hB : ∀ y, A (e y) = B y) (b : ℕ) (hb : b < 25) (ix : Fin 4 → ℕ) (hix : ix = ![0, b, 0, 0])
    (he : ∀ y (a : Fin 4), (e y a).val = ix a * (![2, 1, 10, 800] : Fin 4 → ℕ) a + (y a).val)
    (w r l : ℕ) : at4 A w b r l = at4 B w 0 r l := by
  subst hix
  unfold at4
  rw [← hB]
  refine congrArg A (funext fun a => Fin.ext (Eq.trans ?_ (he _ a).symm))
  match a with
  | ⟨0, _⟩ =>
    show (Fin.ofNat 2 w).val = 0 * 2 + (Fin.ofNat 2 w).val
    omega
  | ⟨1, _⟩ =>
    show (Fin.ofNat 25 b).val = b * 1 + (Fin.ofNat 1 0).val
    rw [ofNat_val hb]
    simp
  | ⟨2, _⟩ =>
    show (Fin.ofNat 10 r).val = 0 * 10 + (Fin.ofNat 10 r).val
    omega
  | ⟨3, _⟩ =>
    show (Fin.ofNat 800 l).val = 0 * 800 + (Fin.ofNat 800 l).val
    omega

/-- What point `t` leaves in the staging buffer is written back whole. -/
theorem out_written (t : Fin cfg0.N) (y : S2x1x10x800.Idx) :
    (dats m 0 c).arrAt 12 cfg0.N (((cfg0.win 12).blk t).view.emb y) = (dats m 0 c).after 12 t y := by
  rw [(dats m 0 c).arrAt_emb_eq_flushed 12 out_disjoint t (flush0_12 t), cast_eq]
  rfl

/-- The output array after the run, by the point that wrote it. -/
theorem out_array (t : Fin grid0.N) (w r l : ℕ) :
    at4 ((dats m 0 c).arrAt 12 cfg0.N : Vec Ideal S2x25x10x800 .f32) w t.val r l
      = at4 (out0_12 (grid0.coords t) (iblk m c 0 t) (iblk m c 1 t) (iblk m c 2 t) (iblk m c 3 t) (iblk m c 4 t) (iblk m c 5 t)
        (iblk m c 6 t) (iblk m c 7 t) (iblk m c 8 t) (iblk m c 9 t) (iblk m c 10 t) (iblk m c 11 t)) w 0 r l := by
  rw [← after0_12]
  exact at4_block _ _ (win0_12.rect t).emb (out_written m c t) t.val t.isLt _ (out_index t)
    (fun y a => win0_12.rect_emb_val t y a) w r l

/-! ## The result -/

/-- The kernel's result: the output array, laid out as a vector. -/
def result : Vec Ideal S400000 .f32 :=
  shapeCast S400000 ((dats m 0 c).arrAt 12 cfg0.N : Vec Ideal S2x25x10x800 .f32) shapeCasts_S2x25x10x800_S400000

/-- The result is the derivative of the state. -/
theorem result_at (w i j d : ℕ) (hw : w < 2) (hi : i < 250) (hj : j < 400) (hd : d < 2) :
    at1 (result m c) (200000 * w + (2 * (400 * i + j) + d))
      = derivative (stateOf m c) (stiffOf m c) (restOf m c) (massOf m c) (dampOf m c) w i j d := by
  have ht : i / 10 < 25 := by omega
  have ep : 200000 * w + (2 * (400 * i + j) + d) = 200000 * w + 8000 * (i / 10) + 800 * (i % 10) + (2 * j + d) := by omega
  have h := out_block m c (⟨i / 10, ht⟩ : Fin grid0.N) w (i % 10) j d hw (by omega) hj hd
  rw [← out_array m c (⟨i / 10, ht⟩ : Fin grid0.N), show 10 * (⟨i / 10, ht⟩ : Fin grid0.N).val + i % 10 = i from by
    show 10 * (i / 10) + i % 10 = i
    omega] at h
  rw [ep, ← h]
  unfold result
  exact at1_cast4 _ _ w (i / 10) (i % 10) (2 * j + d) hw ht (by omega) (by omega)

/-- The line after the region leaves the output array, laid out as a vector, in the result. -/
theorem tail_result : Pipeline.afterTail₀ cfgs (dats m) 0 (V0 m) [hostOps1] c main_v15 = result m c := by
  unfold Pipeline.afterTail₀
  show StableHlo.after hostOps1 _ (Proc.devRef .tc main_v15) = _
  after_results
  have h := (dats m 0 c).withArrays_arrAt sharedIn0 (V0 m c) (A_eq m c) 12
  unfold result
  rw [← h]
  rfl

/-- The kernel's run: the result holds the derivative, the arguments are as launched. -/
theorem kernel_run (ρ : Dev nD → PrngReg) : θ_run defs (onTc (τ := τ) (main (F := Ideal))) ⟨m, fun _ => 0, ρ⟩ (fun r => ∀ c : Dev nD,
      r.2.mem ((c.tc : Thread nD τ).loc main_v15) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine (θ_run defs _ _).mono (fun r h c => ⟨?_, h.1 c⟩) (θ_run_and (unchanged m ρ) (run_main m ρ))
  exact ((h.2 c).2 main_v15 (Pipeline.mem_restRefs_of main_v15 (by decide) (by decide))).trans (tail_result m c)

end Lattice
-- ==== Proof.RefStages.lean ====
/- The reference's result in stages: the force of every edge, the forces added up at the nodes, the accelerations, the
   border's zeros. -/
module

public import Idealize.ShloMosaic.PureOps.Ideal.Laws
public import proofs.«01_k».proof.Proof.Gen.ReferenceIdeal
public import proofs.«01_k».proof.Proof.Gen.ReferenceIdeal.Run

@[expose] public section

set_option maxRecDepth 8192

noncomputable section

namespace Lattice.Ref

open Idealize.ShloMosaic Idealize.ShloMosaic.TcCoe
open Cert.ReferenceIdeal Cert.ReferenceIdeal.Gen Cert.ReferenceIdeal.Value

/-- Node numbers, a negative one counted from the end. -/
def wrap (w : IVec S199350 32) : IVec S199350 32 :=
  select (cmpi .slt w (broadcastInDim S199350 ![] bcast_S_S199350 (constantI S_ 32 0#32)))
    (addi w (broadcastInDim S199350 ![] bcast_S_S199350 (constantI S_ 32 100000#32))) w

/-- Node numbers as a column of index words. -/
def words (w : IVec S199350 32) : IVec S199350x1 32 := broadcastInDim S199350x1 ![0] bcast_S199350_S199350x1_0 (wrap w)

/-- Which index words name a node. -/
def valid (w : IVec S199350x1 32) : IVec S199350 1 :=
  Host.reduce IntOp.andi
    (andi (cmpi .sge w (broadcastInDim S199350x1 ![] bcast_S_S199350x1 (constantI S_ 32 0#32)))
      (cmpi .sle w (broadcastInDim S199350x1 ![0, 1] bcast_S1x1_S199350x1_0_1
        (broadcastInDim S1x1 ![1] bcast_S1_S1x1_1 (constantI S1 32 99999#32)))))
    (constantI S_ 1 1#1) reducesTo_S199350x1_S199350_d1 h_S_

/-- The rows of a table that index words name. -/
def take (x : FVec Ideal S100000x2 .f32) (w : IVec S199350 32) : FVec Ideal S199350x2 .f32 :=
  select (broadcastInDim S199350x2 ![0] bcast_S199350_S199350x2_0 (valid (words w)))
    (Host.gather gather_S100000x2_S199350x1_S199350x2_1_0_n_n_0_1_12 x (words w))
    (broadcastInDim S199350x2 ![] bcast_S_S199350x2 (constant S_ .f32 0x7FC00000#32))

/-- The lengths of the edges' differences, kept away from zero. -/
def lengths (D : FVec Ideal S199350x2 .f32) : FVec Ideal S199350 .f32 :=
  maximumf (Host.sqrt (Host.reduceAdd (mulf D D) (constant S_ .f32 0x00000000#32) reducesTo_S199350x2_S199350_d1 h_S_))
    (broadcastInDim S199350 ![] bcast_S_S199350 (constant S_ .f32 0x2B8CBCCC#32))

/-- A vector over the edges, as a column. -/
def column (x : FVec Ideal S199350 .f32) : FVec Ideal S199350x1 .f32 := broadcastInDim S199350x1 ![0] bcast_S199350_S199350x1_0 x

/-- A column over the edges, for both components. -/
def both (x : FVec Ideal S199350x1 .f32) : FVec Ideal S199350x2 .f32 :=
  broadcastInDim S199350x2 ![0, 1] bcast_S199350x1_S199350x2_0_1 x

/-- The edges' forces. -/
def forces (K R : FVec Ideal S199350 .f32) (D : FVec Ideal S199350x2 .f32) : FVec Ideal S199350x2 .f32 :=
  mulf (both (mulf (column K) (column (subf (lengths D) R)))) (Host.divf D (both (column (lengths D))))

/-- The forces added up at the nodes: each at its edge's source, its opposite at the edge's target. -/
def gathered (src dst : IVec S199350 32) (F : FVec Ideal S199350x2 .f32) : FVec Ideal S100000x2 .f32 :=
  Host.scatterAdd scatter_S100000x2_S199350x1_S199350x2_1_0_0_1
    (Host.scatterAdd scatter_S100000x2_S199350x1_S199350x2_1_0_0_1
      (broadcastInDim S100000x2 ![] bcast_S_S100000x2 (constant S_ .f32 0x00000000#32) : FVec Ideal S100000x2 .f32) (words src) F)
    (words dst) (Host.negf F)

/-- A table over the nodes, its rows at the fixed nodes zero. -/
def pinned (x : FVec Ideal S100000x2 .f32) (f : IVec S1296 32) : FVec Ideal S100000x2 .f32 :=
  Host.scatter scatter_S100000x2_S1296x1_S1296x2_1_0_0_1 (fun _ b => b) x
    (broadcastInDim S1296x1 ![0] bcast_S1296_S1296x1_0
      (select (cmpi .slt f (broadcastInDim S1296 ![] bcast_S_S1296 (constantI S_ 32 0#32)))
        (addi f (broadcastInDim S1296 ![] bcast_S_S1296 (constantI S_ 32 100000#32))) f))
    (broadcastInDim S1296x2 ![] bcast_S_S1296x2 (constant S_ .f32 0x00000000#32))

/-- The positions. -/
def positions (y : FVec Ideal S400000 .f32) : FVec Ideal S100000x2 .f32 :=
  shapeCast S100000x2 (extractStridedSlice S200000 ![0] y slices_S400000_S200000_0) shapeCasts_S200000_S100000x2

/-- The velocities. -/
def velocities (y : FVec Ideal S400000 .f32) : FVec Ideal S100000x2 .f32 :=
  shapeCast S100000x2 (extractStridedSlice S200000 ![200000] y slices_S400000_S200000_200000) shapeCasts_S200000_S100000x2

/-- The edges' sources. -/
def sources (g : IVec S199350x2 32) : IVec S199350 32 :=
  shapeCast S199350 (extractStridedSlice S199350x1 ![0, 0] g slices_S199350x2_S199350x1_0_0) shapeCasts_S199350x1_S199350

/-- The edges' targets. -/
def targets (g : IVec S199350x2 32) : IVec S199350 32 :=
  shapeCast S199350 (extractStridedSlice S199350x1 ![0, 1] g slices_S199350x2_S199350x1_0_1) shapeCasts_S199350x1_S199350

/-- The edges' differences, target less source. -/
def differences (y : FVec Ideal S400000 .f32) (g : IVec S199350x2 32) : FVec Ideal S199350x2 .f32 :=
  subf (take (positions y) (targets g)) (take (positions y) (sources g))

/-- The accelerations. -/
def accelerations (y : FVec Ideal S400000 .f32) (M : FVec Ideal S100000x2 .f32) (K : FVec Ideal S199350 .f32)
    (C : FVec Ideal S100000x2 .f32) (g : IVec S199350x2 32) (R : FVec Ideal S199350 .f32) : FVec Ideal S100000x2 .f32 :=
  Host.divf (addf (gathered (sources g) (targets g) (forces K R (differences y g))) (mulf (Host.negf C) (velocities y))) M

/-- The reference's result. -/
def total (y : FVec Ideal S400000 .f32) (M : FVec Ideal S100000x2 .f32) (K : FVec Ideal S199350 .f32)
    (C : FVec Ideal S100000x2 .f32) (g : IVec S199350x2 32) (R : FVec Ideal S199350 .f32) (f : IVec S1296 32) :
    Vec Ideal S400000 .f32 :=
  concatenate S400000 0 [⟨S200000, shapeCast S200000 (pinned (velocities y) f) shapeCasts_S100000x2_S200000⟩,
    ⟨S200000, shapeCast S200000 (pinned (accelerations y M K C g R) f) shapeCasts_S100000x2_S200000⟩]
    concatenates_S200000_S200000_S400000_d0

/-- What the reference's run leaves is that result of its arguments. -/
theorem result_eq (m : (ℓ : Loc nD τ sig) → Buf (Elt Ideal) ℓ) (c : Dev nD) :
    res_out0 m c = total (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) := by
  unfold res_out0 res_main_v61
  rfl

end Lattice.Ref
-- ==== Proof.Rows.lean ====
/- Taking rows of a table by index words, adding rows into it and overwriting rows of it, read at an element. -/
module

public import proofs.«01_k».proof.Proof.Read
public import Idealize.ShloMosaic.Lib.Routing.OpsSet
public import Idealize.ShloMosaic.PureOps.Ideal.Laws

@[expose] public section

set_option maxRecDepth 4096

noncomputable section

namespace Lattice

open Idealize.ShloMosaic Idealize.ShloMosaic.ValueIdx

variable {α : Type}

/-- A matrix's index, by its two coordinates. -/
theorem idx2_eq {a b : ℕ} [NeZero a] [NeZero b] (k : (⟨2, ![a, b]⟩ : Shape).Idx) (i j : ℕ) (hi : i < a) (hj : j < b) :
    k = ix2 (Fin.ofNat a i) (Fin.ofNat b j) ↔ (k 0).val = i ∧ (k 1).val = j := by
  constructor
  · rintro rfl
    exact ⟨ofNat_val (a := a) hi, ofNat_val (a := b) hj⟩
  · rintro ⟨h0, h1⟩
    refine funext fun u => Fin.ext ?_
    match u with
    | ⟨0, _⟩ => exact h0.trans (ofNat_val (a := a) hi).symm
    | ⟨1, _⟩ => exact h1.trans (ofNat_val (a := b) hj).symm

/-- The word of a node's number, read signed, is the number. -/
theorem toInt_node (n : ℕ) (hn : n < 100000) : (BitVec.ofNat 32 n).toInt = (n : Int) :=
  StableHlo.Predicate.toInt_ofNat_small n (by omega)

/-! ## Scatters of rows -/

/-- A scatter of `n` rows of two into a table of 100000 rows of two, one index word each. -/
abbrev rowScatter (n : ℕ) (wf : ScatterDims.WF ⟨2, ![100000, 2]⟩ ⟨2, ![n, 1]⟩ ⟨2, ![n, 2]⟩ [1] [0] [0] 1) :
    ScatterDims ⟨2, ![100000, 2]⟩ ⟨2, ![n, 1]⟩ ⟨2, ![n, 2]⟩ where
  updateWindowDims := [1]
  insertedWindowDims := [0]
  scatterDimsToOperandDims := [0]
  indexVectorDim := 1
  wf := wf

variable {n : ℕ}

section Scatter

variable (wf : ScatterDims.WF ⟨2, ![100000, 2]⟩ ⟨2, ![n, 1]⟩ ⟨2, ![n, 2]⟩ [1] [0] [0] 1)

/-- An element of row `e` lands in the row that its word names, in the same column. -/
theorem rowScatter_lands (idx : IVec ⟨2, ![n, 1]⟩ 32) (k : (⟨2, ![n, 2]⟩ : Shape).Idx) (p : (⟨2, ![100000, 2]⟩ : Shape).Idx) :
    (rowScatter n wf).resultIdx? k idx = some p
      ↔ (idx (ix2 (k 0) 0)).toInt = ((p 0).val : Int) ∧ (k 1).val = (p 1).val := by
  have s0 : (rowScatter n wf).start k idx (0 : Fin 2) = (idx (ix2 (k 0) 0)).toInt := by
    unfold ScatterDims.start
    rw [dif_pos (show (0 : Fin 2) ∈ (rowScatter n wf).scatterDimsToOperandDims from List.mem_singleton.mpr rfl)]
    refine congrArg (fun z => (idx z).toInt) (funext fun b => Fin.ext ?_)
    match b with
    | ⟨0, _⟩ => rfl
    | ⟨1, _⟩ => rfl
  have s1 : (rowScatter n wf).start k idx (1 : Fin 2) = 0 := by
    unfold ScatterDims.start
    exact dif_neg (show ¬ (1 : Fin 2) ∈ ([0] : List (Fin 2)) by decide)
  have w0 : (rowScatter n wf).window k (0 : Fin 2) = 0 := rfl
  have w1 : (rowScatter n wf).window k (1 : Fin 2) = (k 1).val := rfl
  rw [Routing.resultIdx?_eq_some]
  constructor
  · intro h
    have h0 := h 0
    have h1 := h 1
    rw [s0, w0] at h0
    rw [s1, w1] at h1
    exact ⟨by simpa using h0, by simpa using h1⟩
  · rintro ⟨h0, h1⟩ a
    match a with
    | ⟨0, _⟩ =>
      show (rowScatter n wf).start k idx (0 : Fin 2) + ((rowScatter n wf).window k (0 : Fin 2) : Int) = _
      rw [s0, w0, h0]
      simp
    | ⟨1, _⟩ =>
      show (rowScatter n wf).start k idx (1 : Fin 2) + ((rowScatter n wf).window k (1 : Fin 2) : Int) = _
      rw [s1, w1, h1]
      simp

section Words

variable [NeZero n] (idx : IVec ⟨2, ![n, 1]⟩ 32) (W : ℕ → ℕ) (hW : ∀ e, e < n → at2 idx e 0 = BitVec.ofNat 32 (W e))
  (hN : ∀ e, e < n → W e < 100000)
include hW hN

/-- The same in terms of the numbers that the words hold. -/
theorem rowScatter_lands_word (k : (⟨2, ![n, 2]⟩ : Shape).Idx) (p d : ℕ) (hp : p < 100000) (hd : d < 2) :
    (rowScatter n wf).resultIdx? k idx = some (ix2 (Fin.ofNat 100000 p) (Fin.ofNat 2 d))
      ↔ W (k 0).val = p ∧ (k 1).val = d := by
  have hk : (k 0).val < n := (k 0).isLt
  rw [rowScatter_lands]
  have e : (idx (ix2 (k 0) 0)).toInt = (W (k 0).val : Int) := by
    rw [eq_at2 idx]
    exact (congrArg BitVec.toInt (hW _ hk)).trans (toInt_node _ (hN _ hk))
  have ep : ((ix2 (Fin.ofNat 100000 p) (Fin.ofNat 2 d) : (⟨2, ![100000, 2]⟩ : Shape).Idx) 0).val = p :=
    ofNat_val (a := 100000) hp
  have ed : ((ix2 (Fin.ofNat 100000 p) (Fin.ofNat 2 d) : (⟨2, ![100000, 2]⟩ : Shape).Idx) 1).val = d :=
    ofNat_val (a := 2) hd
  rw [e, ep, ed]
  omega

/-- Rows added into a table: a row that exactly two words name gets the two rows. -/
theorem at2_scatterAdd_two (x : FVec Ideal ⟨2, ![100000, 2]⟩ .f32) (upd : FVec Ideal ⟨2, ![n, 2]⟩ .f32) (p d e e' : ℕ)
    (hp : p < 100000) (hd : d < 2) (he : e < n) (he' : e' < n) (hne : e ≠ e')
    (hW' : ∀ k, k < n → (W k = p ↔ k = e ∨ k = e')) :
    at2 (Host.scatterAdd (rowScatter n wf) x idx upd) p d = at2 x p d + (at2 upd e d + at2 upd e' d) := by
  show at2 x p d + ∑ k ∈ Finset.univ.filter (fun k => (rowScatter n wf).resultIdx? k idx
    = some (ix2 (Fin.ofNat 100000 p) (Fin.ofNat 2 d))), upd k = _
  refine congrArg (at2 x p d + ·) ?_
  have hs : Finset.univ.filter (fun k => (rowScatter n wf).resultIdx? k idx
      = some (ix2 (Fin.ofNat 100000 p) (Fin.ofNat 2 d)))
      = {ix2 (Fin.ofNat n e) (Fin.ofNat 2 d), ix2 (Fin.ofNat n e') (Fin.ofNat 2 d)} := by
    ext k
    have hk : (k 0).val < n := (k 0).isLt
    rw [Finset.mem_filter, Finset.mem_insert, Finset.mem_singleton, idx2_eq k e d he hd, idx2_eq k e' d he' hd,
      rowScatter_lands_word wf idx W hW hN k p d hp hd, hW' _ hk]
    simp only [Finset.mem_univ, true_and]
    tauto
  rw [hs, Finset.sum_pair]
  · rfl
  · intro h
    have h0 := ((idx2_eq _ e' d he' hd).mp h).1
    exact hne ((ofNat_val (a := n) he).symm.trans h0)

/-- Rows overwritten: an element of a row that some word names, where all rows written hold `v`. -/
theorem at2_scatterSet_hit (x : (⟨2, ![100000, 2]⟩ : Shape).Idx → α) (upd : (⟨2, ![n, 2]⟩ : Shape).Idx → α) (v : α)
    (hv : ∀ k, upd k = v) (p d e : ℕ) (hp : p < 100000) (hd : d < 2) (he : e < n) (hWe : W e = p) :
    at2 (Host.scatter (rowScatter n wf) (fun _ b => b) x idx upd) p d = v := by
  refine Routing.scatter_set_hit _ x idx upd _ v (fun k _ => hv k) (ix2 (Fin.ofNat n e) (Fin.ofNat 2 d)) ?_
  rw [rowScatter_lands_word wf idx W hW hN _ p d hp hd]
  have h0 := (idx2_eq (ix2 (Fin.ofNat n e) (Fin.ofNat 2 d)) e d he hd).mp rfl
  rw [h0.1, h0.2]
  exact ⟨hWe, rfl⟩

/-- Rows overwritten: an element of a row that no word names stays. -/
theorem at2_scatterSet_miss (x : (⟨2, ![100000, 2]⟩ : Shape).Idx → α) (upd : (⟨2, ![n, 2]⟩ : Shape).Idx → α)
    (p d : ℕ) (hp : p < 100000) (hd : d < 2) (hWp : ∀ e, e < n → W e ≠ p) :
    at2 (Host.scatter (rowScatter n wf) (fun _ b => b) x idx upd) p d = at2 x p d := by
  refine Routing.scatter_set_miss _ x idx upd _ fun k hk => ?_
  rw [rowScatter_lands_word wf idx W hW hN _ p d hp hd] at hk
  exact hWp _ (k 0).isLt hk.1

end Words

end Scatter

/-! ## Gathers of rows -/

/-- A gather of `n` rows of two out of a table of 100000 rows of two, one index word each. -/
abbrev rowGather (n : ℕ) (wf : GatherDims.WF ⟨2, ![100000, 2]⟩ ⟨2, ![n, 1]⟩ ⟨2, ![n, 2]⟩ [1] [0] [] [0] [] 1 ![1, 2]) :
    GatherDims ⟨2, ![100000, 2]⟩ ⟨2, ![n, 1]⟩ ⟨2, ![n, 2]⟩ where
  offsetDims := [1]
  collapsedSliceDims := [0]
  operandBatchingDims := []
  startIndicesBatchingDims := []
  startIndexMap := [0]
  indexVectorDim := 1
  sliceSizes := ![1, 2]
  wf := wf

/-- A row taken is the row that its word names. -/
theorem at2_gather [NeZero n] (wf : GatherDims.WF ⟨2, ![100000, 2]⟩ ⟨2, ![n, 1]⟩ ⟨2, ![n, 2]⟩ [1] [0] [] [0] [] 1 ![1, 2])
    (x : (⟨2, ![100000, 2]⟩ : Shape).Idx → α) (idx : IVec ⟨2, ![n, 1]⟩ 32) (p e d : ℕ) (hp : p < 100000) (he : e < n)
    (hd : d < 2) (hW : at2 idx e 0 = BitVec.ofNat 32 p) :
    at2 (Host.gather (rowGather n wf) x idx) e d = at2 x p d := by
  unfold at2 at hW ⊢
  generalize hy : (ix2 (Fin.ofNat n e) (Fin.ofNat 2 d) : (⟨2, ![n, 2]⟩ : Shape).Idx) = y
  have hs : (rowGather n wf).start y idx (0 : Fin 2) = p := by
    unfold GatherDims.start
    rw [dif_pos (show (0 : Fin 2) ∈ (rowGather n wf).startIndexMap from List.mem_singleton.mpr rfl)]
    have hi : (rowGather n wf).siIdx y ⟨List.idxOf (0 : Fin 2) (rowGather n wf).startIndexMap,
        List.idxOf_lt_length_iff.2 (List.mem_singleton.mpr rfl)⟩ = ix2 (Fin.ofNat n e) (Fin.ofNat 1 0) := by
      subst hy
      refine funext fun b => Fin.ext ?_
      match b with
      | ⟨0, _⟩ => rfl
      | ⟨1, _⟩ => rfl
    rw [hi, hW, toInt_node p hp]
    show min p (100000 - 1) = p
    omega
  have hs1 : (rowGather n wf).start y idx (1 : Fin 2) = 0 := by
    unfold GatherDims.start
    exact dif_neg (show ¬ (1 : Fin 2) ∈ ([0] : List (Fin 2)) by decide)
  refine congrArg x (funext fun a => Fin.ext ?_)
  match a with
  | ⟨0, _⟩ =>
    show (rowGather n wf).start y idx (0 : Fin 2) + (rowGather n wf).batchCoord y (0 : Fin 2)
      + (rowGather n wf).offCoord y (0 : Fin 2) = (Fin.ofNat 100000 p).val
    rw [hs, GatherDims.batchCoord_eq_zero _ _ _ (fun h => by simp at h),
      GatherDims.offCoord_eq_zero _ _ _ (fun h => ((GatherDims.mem_sKept _ _).mp h).1 (List.mem_singleton.mpr rfl)),
      ofNat_val hp]
    rfl
  | ⟨1, _⟩ =>
    show (rowGather n wf).start y idx (1 : Fin 2) + (rowGather n wf).batchCoord y (1 : Fin 2)
      + (rowGather n wf).offCoord y (1 : Fin 2) = (Fin.ofNat 2 d).val
    rw [hs1, GatherDims.batchCoord_eq_zero _ _ _ (fun h => by simp at h)]
    subst hy
    show 0 + 0 + (Fin.ofNat 2 d).val = _
    omega

end Lattice
-- ==== Proof.Tables.lean ====
/- The two integer tables: what the precondition says of their words. -/
module

public import proofs.«01_k».proof.Pre_lattice
public import proofs.«01_k».proof.Proof.Read
public import Idealize.ShloMosaic.Lib.StableHlo.Predicate

@[expose] public section

set_option maxRecDepth 4096

noncomputable section

namespace Lattice

open Idealize.ShloMosaic Idealize.ShloMosaic.ValueIdx

/-- The node an edge starts at: the edges of the rows come first, then the edges of the columns. -/
def source (e : ℕ) : ℕ := if e < 99750 then 400 * (e / 399) + e % 399 else e - 99750

/-- The node an edge ends at: the next in its row, or the one below. -/
def target (e : ℕ) : ℕ := if e < 99750 then 400 * (e / 399) + e % 399 + 1 else e - 99750 + 400

/-- The border's nodes in the table's order: the first row, the two ends of each row between, the last row. -/
def border (t : ℕ) : ℕ :=
  if t < 400 then t else if t < 896 then (1 + (t - 400) / 2) * 400 + (t - 400) % 2 * 399 else 99600 + (t - 896)

/-- The side conditions of the precondition's operations. -/
instance preFacts : Cert.Pre_lattice.Facts := by
  constructor <;> decide

/-- A comparison of vectors of words. -/
theorem at1_cmpi {a : ℕ} [NeZero a] (p : CmpIPredicate) (x y : IVec ⟨1, ![a]⟩ 32) (i : ℕ) :
    at1 (cmpi p x y) i = IntOp.cmpi p (at1 x i) (at1 y i) := rfl

/-- The numbers of the nodes. -/
theorem at1_iota {a : ℕ} [NeZero a] (i : ℕ) (hi : i < a) : at1 (iotaInDim ⟨1, ![a]⟩ 32 0) i = BitVec.ofNat 32 i :=
  congrArg (BitVec.ofNat 32) (ofNat_val (a := a) hi)

section Words

variable (a0 : Vec Ideal Cert.Pre_lattice.S1 .f32) (a1 : Vec Ideal Cert.Pre_lattice.S400000 .f32)
  (a2 : Vec Ideal Cert.Pre_lattice.S100000x2 .f32) (a3 : Vec Ideal Cert.Pre_lattice.S199350 .f32)
  (a4 : Vec Ideal Cert.Pre_lattice.S100000x2 .f32) (a5 : IVec Cert.Pre_lattice.S199350x2 32)
  (a6 : Vec Ideal Cert.Pre_lattice.S199350 .f32) (a7 : IVec Cert.Pre_lattice.S1296 32)
  (h : Cert.Pre_lattice.fn (F := Ideal) a0 a1 a2 a3 a4 a5 a6 a7 = fun _ => 1#1)
include h

/-- Each edge starts where the lattice has it start. -/
theorem word_source (e : ℕ) (he : e < 199350) : at2 a5 e 0 = BitVec.ofNat 32 (source e) := by
  have h1 : at1 (Cert.Pre_lattice.fn (F := Ideal) a0 a1 a2 a3 a4 a5 a6 a7) e = 1#1 := by rw [h]; rfl
  unfold Cert.Pre_lattice.fn Cert.Pre_lattice.fn_part1 at h1
  dsimp only at h1
  rw [at1_triple_fst _ _ _ _ e he (by omega), at1_cmpi, StableHlo.Predicate.cmpi_eq_iff] at h1
  simp (disch := omega) only [at1_cast2, at2_slice] at h1
  rw [show 0 + e / 1 = e by omega, show 0 + e % 1 = 0 by omega] at h1
  rw [h1]
  unfold source
  split
  · rw [at1_pair_left _ _ _ e (by omega) (by omega)]
    simp (disch := omega) only [at1_cast2, at2_slice, at2_cast1, at1_iota]
    exact congrArg (BitVec.ofNat 32) (by omega)
  · rw [at1_pair_right _ _ _ e (by omega) (by omega) (by omega)]
    simp (disch := omega) only [at1_cast2, at2_slice, at2_cast1, at1_iota]
    exact congrArg (BitVec.ofNat 32) (by omega)

/-- Each edge ends where the lattice has it end. -/
theorem word_target (e : ℕ) (he : e < 199350) : at2 a5 e 1 = BitVec.ofNat 32 (target e) := by
  have h1 : at1 (Cert.Pre_lattice.fn (F := Ideal) a0 a1 a2 a3 a4 a5 a6 a7) (199350 + e) = 1#1 := by rw [h]; rfl
  unfold Cert.Pre_lattice.fn Cert.Pre_lattice.fn_part1 at h1
  dsimp only at h1
  rw [at1_triple_snd _ _ _ _ (199350 + e) (by omega) (by omega) (by omega), at1_cmpi, StableHlo.Predicate.cmpi_eq_iff,
    Nat.add_sub_cancel_left] at h1
  simp (disch := omega) only [at1_cast2, at2_slice] at h1
  rw [show 0 + e / 1 = e by omega, show 1 + e % 1 = 1 by omega] at h1
  rw [h1]
  unfold target
  split
  · rw [at1_pair_left _ _ _ e (by omega) (by omega)]
    simp (disch := omega) only [at1_cast2, at2_slice, at2_cast1, at1_iota]
    exact congrArg (BitVec.ofNat 32) (by omega)
  · rw [at1_pair_right _ _ _ e (by omega) (by omega) (by omega)]
    simp (disch := omega) only [at1_cast2, at2_slice, at2_cast1, at1_iota]
    exact congrArg (BitVec.ofNat 32) (by omega)

/-- The second table lists the border. -/
theorem word_border (t : ℕ) (ht : t < 1296) : at1 a7 t = BitVec.ofNat 32 (border t) := by
  have h1 : at1 (Cert.Pre_lattice.fn (F := Ideal) a0 a1 a2 a3 a4 a5 a6 a7) (398700 + t) = 1#1 := by rw [h]; rfl
  unfold Cert.Pre_lattice.fn Cert.Pre_lattice.fn_part1 at h1
  dsimp only at h1
  rw [at1_triple_thd _ _ _ _ (398700 + t) (by omega) (by omega) (by omega), at1_cmpi, StableHlo.Predicate.cmpi_eq_iff,
    show 398700 + t - (199350 + 199350) = t by omega] at h1
  rw [h1]
  unfold border
  split
  · rw [at1_triple_fst _ _ _ _ t (by omega) (by omega)]
    simp (disch := omega) only [at1_cast2, at2_slice, at2_cast1, at1_iota]
    exact congrArg (BitVec.ofNat 32) (by omega)
  · split
    · rw [at1_triple_snd _ _ _ _ t (by omega) (by omega) (by omega), at1_cast2 _ _ (t - 400) (by omega) (by omega)]
      obtain hc | hc : (t - 400) % 2 = 0 ∨ (t - 400) % 2 = 1 := by omega
      · rw [hc, at2_pairCol_left _ _ _ _ 0 (by omega) (by omega), at2_bcastCol _ _ _ _ (by omega)]
        simp (disch := omega) only [at1_cast2, at2_slice, at2_cast1, at1_iota]
        exact congrArg (BitVec.ofNat 32) (by omega)
      · rw [hc, at2_pairCol_right _ _ _ _ 1 (by omega) (by omega) (by omega), at2_bcastCol _ _ _ _ (by omega)]
        simp (disch := omega) only [at1_cast2, at2_slice, at2_cast1, at1_iota]
        exact congrArg (BitVec.ofNat 32) (by omega)
    · rw [at1_triple_thd _ _ _ _ t (by omega) (by omega) (by omega)]
      simp (disch := omega) only [at1_cast2, at2_slice, at2_cast1, at1_iota]
      exact congrArg (BitVec.ofNat 32) (by omega)

end Words

end Lattice
-- ==== Proof.RefValue.lean ====
/- The reference's stages read at an element, on the lattice: the tables of nodes name each edge's two ends and the border. -/
module

public import proofs.«01_k».proof.Proof.RefStages
public import proofs.«01_k».proof.Proof.Rows
public import proofs.«01_k».proof.Proof.Spec
public import proofs.«01_k».proof.Proof.Tables
public import Idealize.ShloMosaic.Lib.IdealHost
public import Idealize.ShloMosaic.Lib.Pointwise.Reduce
public import Idealize.ShloMosaic.Lib.Routing.OpsPair
public import Idealize.ShloMosaic.Lib.StableHlo.Predicate

@[expose] public section

set_option maxRecDepth 8192

noncomputable section

namespace Lattice.Ref

open Idealize.ShloMosaic Idealize.ShloMosaic.TcCoe Idealize.ShloMosaic.ValueIdx
open Cert.ReferenceIdeal Cert.ReferenceIdeal.Gen

/-- A column broadcast along its rows. -/
theorem at2_bcastBoth {α : Type} {a b : ℕ} [NeZero a] [NeZero b] (x : (⟨2, ![a, 1]⟩ : Shape).Idx → α)
    (h : (⟨2, ![a, 1]⟩ : Shape).BroadcastsInDim ⟨2, ![a, b]⟩ ![0, 1]) (i j : ℕ) (hi : i < a) :
    at2 (broadcastInDim ⟨2, ![a, b]⟩ ![0, 1] h x) i j = at2 x i 0 := by
  refine broadcastInDim_apply _ _ _ _ _ fun u => ?_
  match u with
  | ⟨0, _⟩ =>
    show (Fin.ofNat a i).val = if a = 1 then 0 else (Fin.ofNat a i).val
    rw [ofNat_val hi]
    split <;> omega
  | ⟨1, _⟩ => rfl

/-- The number a node's word holds. -/
theorem toNat_node (n : ℕ) (hn : n < 100000) : (BitVec.ofNat 32 n).toNat = n := by
  rw [BitVec.toNat_ofNat]; omega

/-- Wrapping leaves a node's word as it is. -/
theorem wrap_node (n : ℕ) (hn : n < 100000) :
    Scalar.select (IntOp.cmpi .slt (BitVec.ofNat 32 n) 0#32) (IntOp.addi (BitVec.ofNat 32 n) 100000#32) (BitVec.ofNat 32 n)
      = BitVec.ofNat 32 n :=
  Routing.wrap_of_lt _ _ (by rw [toNat_node n hn]; omega)

/-- The column of index words holds the nodes' words. -/
theorem at2_words (w : IVec S199350 32) (e n : ℕ) (he : e < 199350) (hn : n < 100000) (hw : at1 w e = BitVec.ofNat 32 n) :
    at2 (words w) e 0 = BitVec.ofNat 32 n := by
  refine (at2_bcastCol (wrap w) _ e 0 he).trans ?_
  show Scalar.select (IntOp.cmpi .slt (at1 w e) 0#32) (IntOp.addi (at1 w e) 100000#32) (at1 w e) = _
  rw [hw]
  exact wrap_node n hn

/-- A fold of conjunctions of ones is one. -/
theorem foldl_andi {β : Type} (l : List β) (x : β → BitVec 1) (hx : ∀ b, x b = 1#1) :
    l.foldl (fun r b => IntOp.andi r (x b)) 1#1 = 1#1 := by
  induction l with
  | nil => rfl
  | cons b l ih => rw [List.foldl_cons, hx b]; exact ih

/-- A column of nodes' words is valid everywhere. -/
theorem at1_valid (w : IVec S199350x1 32) (hw : ∀ e, e < 199350 → ∃ n, n < 100000 ∧ at2 w e 0 = BitVec.ofNat 32 n) (e : ℕ) :
    at1 (valid w) e = 1#1 := by
  refine foldl_andi _ _ fun b => ?_
  generalize S199350x1.rowMajor.symm b = k
  show IntOp.andi (IntOp.cmpi .sge (w k) 0#32) (IntOp.cmpi .sle (w k) 99999#32) = 1#1
  have hk : (k 1).val = 0 := Nat.lt_one_iff.mp (k 1).isLt
  obtain ⟨n, hn, h⟩ := hw (k 0).val (k 0).isLt
  rw [eq_at2 w k, hk, h, IntOp.andi_eq_one, StableHlo.Predicate.sge_iff_toNat (by rw [toNat_node n hn]; omega) (by decide),
    StableHlo.Predicate.sle_iff_toNat (by rw [toNat_node n hn]; omega) (by decide), toNat_node n hn]
  exact ⟨Nat.zero_le _, Nat.le_of_lt_succ hn⟩

/-- Taking rows by nodes' words. -/
theorem at2_take (x : FVec Ideal S100000x2 .f32) (w : IVec S199350 32) (W : ℕ → ℕ)
    (hw : ∀ e, e < 199350 → at1 w e = BitVec.ofNat 32 (W e)) (hW : ∀ e, e < 199350 → W e < 100000) (e d : ℕ) (he : e < 199350)
    (hd : d < 2) : at2 (take x w) e d = at2 x (W e) d := by
  have hv : at2 (broadcastInDim S199350x2 ![0] bcast_S199350_S199350x2_0 (valid (words w))) e d = 1#1 :=
    (at2_bcastCol _ _ e d he).trans
      (at1_valid _ (fun e he => ⟨W e, hW e he, at2_words w e _ he (hW e he) (hw e he)⟩) e)
  refine (at2_select _ _ _ e d).trans ?_
  rw [if_pos hv]
  exact at2_gather _ x (words w) (W e) e d (hW e he) he hd (at2_words w e _ he (hW e he) (hw e he))

/-- The reference's square root of a vector. -/
theorem at1_hostSqrt {a : ℕ} [NeZero a] (x : FVec Ideal ⟨1, ![a]⟩ .f32) (i : ℕ) :
    at1 (Host.sqrt x) i = Ideal.sqrt (at1 x i) := rfl

/-- The reference's quotient of matrices. -/
theorem at2_hostDivf {a b : ℕ} [NeZero a] [NeZero b] (x y : FVec Ideal ⟨2, ![a, b]⟩ .f32) (i j : ℕ) :
    at2 (Host.divf x y) i j = Ideal.div (at2 x i j) (at2 y i j) := rfl

/-- The reference's opposite of a matrix. -/
theorem at2_hostNegf {a b : ℕ} [NeZero a] [NeZero b] (x : FVec Ideal ⟨2, ![a, b]⟩ .f32) (i j : ℕ) :
    at2 (Host.negf x) i j = -at2 x i j := rfl

/-- The length of an edge's difference. -/
theorem at1_lengths (D : FVec Ideal S199350x2 .f32) (e : ℕ) (he : e < 199350) :
    at1 (lengths D) e = length (at2 D e 0) (at2 D e 1) := by
  have hs : at1 (Host.reduceAdd (mulf D D) (constant S_ .f32 0x00000000#32) reducesTo_S199350x2_S199350_d1 h_S_) e
      = at2 D e 0 * at2 D e 0 + at2 D e 1 * at2 D e 1 := by
    refine (Ideal.hostReduceAdd_r2_a1 _ _ _ _).trans ?_
    rw [Fin.sum_univ_two]
    refine (congrArg (· + _) Ideal.ofBits_zero_f32).trans ((zero_add _).trans ?_)
    rw [eq_at2 (mulf D D), eq_at2 (mulf D D)]
    show at2 (mulf D D) (Fin.ofNat 199350 e).val 0 + at2 (mulf D D) (Fin.ofNat 199350 e).val 1 = _
    rw [ofNat_val he]
    rfl
  unfold lengths
  generalize Host.reduceAdd (mulf D D) (constant S_ .f32 0x00000000#32) reducesTo_S199350x2_S199350_d1 h_S_ = X at hs ⊢
  rw [at1_maximumf, at1_hostSqrt, hs, at1_bcastScalar]
  rfl

/-- A vector over the edges for both components. -/
theorem at2_both (x : FVec Ideal S199350x1 .f32) (e d : ℕ) (he : e < 199350) : at2 (both x) e d = at2 x e 0 :=
  at2_bcastBoth x _ e d he

/-- A vector over the edges as a column. -/
theorem at2_column (x : FVec Ideal S199350 .f32) (e d : ℕ) (he : e < 199350) : at2 (column x) e d = at1 x e :=
  at2_bcastCol x _ e d he

/-- An edge's force. -/
theorem at2_forces (K R : FVec Ideal S199350 .f32) (D : FVec Ideal S199350x2 .f32) (e d : ℕ) (he : e < 199350) :
    at2 (forces K R D) e d = tensionRef (at1 K e) (at1 R e) (at2 D e 0) (at2 D e 1) (at2 D e d) := by
  unfold forces
  rw [at2_mulf, at2_hostDivf]
  rw [at2_both _ e d he, at2_both _ e d he, at2_mulf, at2_column K e 0 he, at2_column _ e 0 he, at2_column _ e 0 he, at1_subf,
    at1_lengths D e he]
  rfl

/-- The side condition of the scatter over the edges. -/
theorem edgeScatter_wf : ScatterDims.WF ⟨2, ![100000, 2]⟩ ⟨2, ![199350, 1]⟩ ⟨2, ![199350, 2]⟩ [1] [0] [0] 1 :=
  (scatter_S100000x2_S199350x1_S199350x2_1_0_0_1).wf

/-- The scatter over the edges adds whole rows. -/
theorem edgeScatter_eq : scatter_S100000x2_S199350x1_S199350x2_1_0_0_1 = rowScatter 199350 edgeScatter_wf := rfl

/-- The forces added up at a node that is the source of two edges and the target of two. -/
theorem at2_gathered (src dst : IVec S199350 32) (F : FVec Ideal S199350x2 .f32)
    (hs : ∀ e, e < 199350 → at1 src e = BitVec.ofNat 32 (source e))
    (ht : ∀ e, e < 199350 → at1 dst e = BitVec.ofNat 32 (target e)) (i j d : ℕ) (hij : Interior i j) (hd : d < 2) :
    at2 (gathered src dst F) (400 * i + j) d
      = (at2 F (399 * i + j) d + at2 F (99750 + (400 * i + j)) d)
        + (-at2 F (399 * i + j - 1) d + -at2 F (99350 + (400 * i + j)) d) := by
  obtain ⟨hi, hi', hj, hj'⟩ := hij
  have hS : ∀ e, e < 199350 → source e < 100000 := fun e he => by unfold source; split <;> omega
  have hT : ∀ e, e < 199350 → target e < 100000 := fun e he => by unfold target; split <;> omega
  have hsrc := at2_scatterAdd_two (n := 199350) edgeScatter_wf (words src) source
    (fun e he => at2_words src e _ he (hS e he) (hs e he)) hS
    (broadcastInDim S100000x2 ![] bcast_S_S100000x2 (constant S_ .f32 0x00000000#32) : FVec Ideal S100000x2 .f32)
    F (400 * i + j) d (399 * i + j) (99750 + (400 * i + j)) (by omega) hd (by omega) (by omega) (by omega)
    (fun k hk => by unfold source; split <;> omega)
  have hdst := fun x => at2_scatterAdd_two (n := 199350) edgeScatter_wf (words dst) target
    (fun e he => at2_words dst e _ he (hT e he) (ht e he)) hT x (Host.negf F) (400 * i + j) d (399 * i + j - 1)
    (99350 + (400 * i + j)) (by omega) hd (by omega) (by omega) (by omega) (fun k hk => by unfold target; split <;> omega)
  unfold gathered
  rw [edgeScatter_eq, hdst, at2_hostNegf, at2_hostNegf, hsrc, at2_bcastScalar]
  have h0 : (constant S_ .f32 0x00000000#32 : FVec Ideal S_ .f32) ValueIdx.ix0 = (0 : EReal) := Ideal.ofBits_zero_f32
  rw [h0]
  rw [zero_add]

/-- The fixed nodes' index words. -/
theorem at2_fixed (f : IVec S1296 32) (t n : ℕ) (ht : t < 1296) (hn : n < 100000) (hf : at1 f t = BitVec.ofNat 32 n) :
    at2 (broadcastInDim S1296x1 ![0] bcast_S1296_S1296x1_0
      (select (cmpi .slt f (broadcastInDim S1296 ![] bcast_S_S1296 (constantI S_ 32 0#32)))
        (addi f (broadcastInDim S1296 ![] bcast_S_S1296 (constantI S_ 32 100000#32))) f)) t 0 = BitVec.ofNat 32 n := by
  refine (at2_bcastCol _ _ t 0 ht).trans ?_
  show Scalar.select (IntOp.cmpi .slt (at1 f t) 0#32) (IntOp.addi (at1 f t) 100000#32) (at1 f t) = _
  rw [hf]
  exact wrap_node n hn

/-- The table's nodes are on the lattice. -/
theorem border_lt (t : ℕ) (ht : t < 1296) : border t < 100000 := by
  unfold border; split
  · omega
  · split <;> omega

/-- A node on the border is in the table. -/
theorem exists_border (i j : ℕ) (hi : i < 250) (hj : j < 400) (hij : ¬Interior i j) : ∃ t, t < 1296 ∧ border t = 400 * i + j := by
  unfold Interior at hij
  by_cases h0 : i = 0
  · exact ⟨j, by omega, by unfold border; rw [if_pos hj]; omega⟩
  by_cases h1 : i = 249
  · exact ⟨896 + j, by omega, by unfold border; rw [if_neg (by omega), if_neg (by omega)]; omega⟩
  by_cases h2 : j = 0
  · exact ⟨400 + 2 * (i - 1), by omega, by unfold border; rw [if_neg (by omega), if_pos (by omega)]; omega⟩
  · exact ⟨400 + 2 * (i - 1) + 1, by omega, by unfold border; rw [if_neg (by omega), if_pos (by omega)]; omega⟩

/-- The fixed nodes' rows are zero, the other rows stay. -/
theorem at2_pinned (x : FVec Ideal S100000x2 .f32) (f : IVec S1296 32)
    (hf : ∀ t, t < 1296 → at1 f t = BitVec.ofNat 32 (border t)) (i j d : ℕ) (hi : i < 250) (hj : j < 400) (hd : d < 2) :
    at2 (pinned x f) (400 * i + j) d = if Interior i j then at2 x (400 * i + j) d else 0 := by
  split
  · rename_i h
    obtain ⟨h0, h1, h2, h3⟩ := h
    exact at2_scatterSet_miss (n := 1296) _ _ border (fun t ht => at2_fixed f t _ ht (border_lt t ht) (hf t ht)) border_lt
      x _ (400 * i + j) d (by omega) hd (fun t ht => by
        unfold border; split
        · omega
        · rcases Nat.mod_two_eq_zero_or_one (t - 400) with e | e <;> rw [e] <;> split <;> omega)
  · rename_i h
    obtain ⟨t, ht, hb⟩ := exists_border i j hi hj h
    exact at2_scatterSet_hit (n := 1296) _ _ border (fun t ht => at2_fixed f t _ ht (border_lt t ht) (hf t ht)) border_lt
      x _ 0 (fun _ => Ideal.ofBits_zero_f32) (400 * i + j) d t (by omega) hd ht hb

/-- A node's position. -/
theorem at2_positions (y : FVec Ideal S400000 .f32) (n d : ℕ) (hn : n < 100000) (hd : d < 2) :
    at2 (positions y) n d = at1 y (2 * n + d) := by
  unfold positions
  rw [at2_cast1 _ _ n d hn hd (by omega), at1_slice _ _ _ _ (by omega)]
  exact congrArg (at1 y) (by omega)

/-- A node's velocity. -/
theorem at2_velocities (y : FVec Ideal S400000 .f32) (n d : ℕ) (hn : n < 100000) (hd : d < 2) :
    at2 (velocities y) n d = at1 y (200000 + (2 * n + d)) := by
  unfold velocities
  rw [at2_cast1 _ _ n d hn hd (by omega), at1_slice _ _ _ _ (by omega)]
  exact congrArg (at1 y) (by omega)

/-- An edge's source. -/
theorem at1_sources (g : IVec S199350x2 32) (e : ℕ) (he : e < 199350) : at1 (sources g) e = at2 g e 0 := by
  unfold sources
  rw [at1_cast2 _ _ e he (by omega), at2_slice _ _ _ _ _ _ (by omega) (by omega)]
  exact congrArg₂ (at2 g) (by omega) (by omega)

/-- An edge's target. -/
theorem at1_targets (g : IVec S199350x2 32) (e : ℕ) (he : e < 199350) : at1 (targets g) e = at2 g e 1 := by
  unfold targets
  rw [at1_cast2 _ _ e he (by omega), at2_slice _ _ _ _ _ _ (by omega) (by omega)]
  exact congrArg₂ (at2 g) (by omega) (by omega)

end Lattice.Ref
-- ==== Proof.Equation.lean ====
/- The reference's result is the derivative of the state as well, element by element: the two forms of a spring's force are
   one extended real, and so are the two orders of the sum at a node. -/
module

public import proofs.«01_k».proof.Proof.RefValue

@[expose] public section

set_option maxRecDepth 8192

noncomputable section

namespace Lattice.Ref

open Idealize.ShloMosaic Idealize.ShloMosaic.TcCoe Idealize.ShloMosaic.ValueIdx
open Cert.ReferenceIdeal Cert.ReferenceIdeal.Gen

/-- The constant that bounds the lengths from below is positive. -/
theorem bound_pos : (0 : EReal) < Ideal.ofBits .f32 0x2B8CBCCC#32 := by
  simp [Ideal.ofBits, Ideal.ieee, -EReal.coe_mul]
  try norm_num

/-- A length is not zero. -/
theorem length_ne (p q : EReal) : length p q ≠ 0 := (bound_pos.trans_le (le_max_right _ _)).ne'

/-- The two forms of a spring's force agree: the length is not zero, so both divide by multiplying with its inverse. -/
theorem tensionRef_eq (k r p q g : EReal) : tensionRef k r p q g = tension k r p q g := by
  unfold tensionRef tension Ideal.div
  rw [if_neg (length_ne p q), if_neg (length_ne p q), mul_comm g, mul_assoc, mul_assoc, mul_assoc]

/-- The two orders of the sum at a node agree. -/
theorem sum_eq (a b c e x v : EReal) : ((a + b) + (-c + -e)) + -x * v = (((a - c) + b) - e) - x * v := by
  rw [sub_eq_add_neg, sub_eq_add_neg, sub_eq_add_neg, EReal.neg_mul]
  ac_rfl

section Arguments

variable (y : FVec Ideal S400000 .f32) (M : FVec Ideal S100000x2 .f32) (K : FVec Ideal S199350 .f32)
  (C : FVec Ideal S100000x2 .f32) (g : IVec S199350x2 32) (R : FVec Ideal S199350 .f32) (f : IVec S1296 32)
  (hs : ∀ e, e < 199350 → at2 g e 0 = BitVec.ofNat 32 (source e))
  (ht : ∀ e, e < 199350 → at2 g e 1 = BitVec.ofNat 32 (target e))
include hs ht

/-- An edge's difference, on the lattice. -/
theorem at2_differences (e d : ℕ) (he : e < 199350) (hd : d < 2) :
    at2 (differences y g) e d = at1 y (2 * target e + d) - at1 y (2 * source e + d) := by
  have hS : ∀ e, e < 199350 → source e < 100000 := fun e he => by unfold source; split <;> omega
  have hT : ∀ e, e < 199350 → target e < 100000 := fun e he => by unfold target; split <;> omega
  unfold differences
  rw [at2_subf, at2_take _ _ target (fun e he => (at1_targets g e he).trans (ht e he)) hT e d he hd,
    at2_take _ _ source (fun e he => (at1_sources g e he).trans (hs e he)) hS e d he hd,
    at2_positions y _ d (hT e he) hd, at2_positions y _ d (hS e he) hd]

/-- An edge's force, on the lattice: the spring between its two nodes. -/
theorem at2_spring (e p q d : ℕ) (he : e < 199350) (hd : d < 2) (hp : source e = p) (hq : target e = q) :
    at2 (forces K R (differences y g)) e d = spring (at1 y) (at1 K) (at1 R) e p q d := by
  rw [at2_forces _ _ _ e d he, at2_differences y g hs ht e 0 he (by omega), at2_differences y g hs ht e 1 he (by omega),
    at2_differences y g hs ht e d he hd, hp, hq]
  exact tensionRef_eq _ _ _ _ _

/-- An interior node's acceleration. -/
theorem at2_accelerations (i j d : ℕ) (hij : Interior i j) (hd : d < 2) :
    at2 (accelerations y M K C g R) (400 * i + j) d
      = acceleration (at1 y) (at1 K) (at1 R) (at2 M) (at2 C) i j d := by
  have hij' := hij
  obtain ⟨hi, hi', hj, hj'⟩ := hij'
  unfold accelerations
  rw [at2_hostDivf, at2_addf, at2_mulf, at2_hostNegf,
    at2_gathered _ _ _ (fun e he => (at1_sources g e he).trans (hs e he)) (fun e he => (at1_targets g e he).trans (ht e he))
      i j d hij hd,
    at2_velocities y _ d (by omega) hd,
    at2_spring y K g R hs ht (399 * i + j) (400 * i + j) (400 * i + j + 1) d (by omega) hd
      (by unfold source; split <;> omega) (by unfold target; split <;> omega),
    at2_spring y K g R hs ht (99750 + (400 * i + j)) (400 * i + j) (400 * i + j + 400) d (by omega) hd
      (by unfold source; split <;> omega) (by unfold target; split <;> omega),
    at2_spring y K g R hs ht (399 * i + j - 1) (400 * i + j - 1) (400 * i + j) d (by omega) hd
      (by unfold source; split <;> omega) (by unfold target; split <;> omega),
    at2_spring y K g R hs ht (99350 + (400 * i + j)) (400 * i + j - 400) (400 * i + j) d (by omega) hd
      (by unfold source; split <;> omega) (by unfold target; split <;> omega),
    sum_eq]
  rfl

/-- The reference's result, element by element. -/
theorem at1_total (hf : ∀ t, t < 1296 → at1 f t = BitVec.ofNat 32 (border t)) (w i j d : ℕ) (hw : w < 2) (hi : i < 250)
    (hj : j < 400) (hd : d < 2) :
    at1 (total y M K C g R f) (200000 * w + (2 * (400 * i + j) + d))
      = derivative (at1 y) (at1 K) (at1 R) (at2 M) (at2 C) w i j d := by
  unfold total derivative
  have hn : (2 * (400 * i + j) + d) / 2 = 400 * i + j := by omega
  have hr : (2 * (400 * i + j) + d) % 2 = d := by omega
  by_cases h0 : w = 0
  · subst h0
    rw [at1_pair_left _ _ _ _ (by omega) (by omega), show 200000 * 0 + (2 * (400 * i + j) + d) = 2 * (400 * i + j) + d by omega,
      at1_cast2 _ _ _ (by omega) (by omega), hn, hr, at2_pinned _ f hf i j d hi hj hd, at2_velocities y _ d (by omega) hd,
      if_pos rfl]
  · rw [at1_pair_right _ _ _ _ (by omega) (by omega) (by omega),
      show 200000 * w + (2 * (400 * i + j) + d) - 200000 = 2 * (400 * i + j) + d by omega,
      at1_cast2 _ _ _ (by omega) (by omega), hn, hr, at2_pinned _ f hf i j d hi hj hd, if_neg h0]
    split
    · rename_i h
      exact at2_accelerations y M K C g R hs ht i j d h hd
    · rfl

end Arguments

end Lattice.Ref
-- ==== Proof.Same.lean ====
/- The two programs' results are one vector, from memories that agree on the arguments and whose tables are the lattice's. -/
module

public import proofs.«01_k».proof.Proof.Result
public import proofs.«01_k».proof.Proof.Equation

@[expose] public section

set_option maxRecDepth 8192

noncomputable section

namespace Lattice

open Idealize.ShloMosaic Idealize.ShloMosaic.TcCoe Idealize.ShloMosaic.ValueIdx

/-- Two vectors of the result's length agree as soon as they agree at each half, row, column and component. -/
theorem ext_result (x y : (⟨1, ![400000]⟩ : Shape).Idx → EReal)
    (h : ∀ w i j d, w < 2 → i < 250 → j < 400 → d < 2 →
      at1 x (200000 * w + (2 * (400 * i + j) + d)) = at1 y (200000 * w + (2 * (400 * i + j) + d))) : x = y := by
  funext p
  rw [eq_at1 x p, eq_at1 y p]
  have hp : (p 0).val < 400000 := (p 0).isLt
  generalize (p 0).val = n at hp
  have e : n = 200000 * (n / 200000) + (2 * (400 * (n % 200000 / 800) + n % 800 / 2) + n % 2) := by omega
  rw [e]
  exact h _ _ _ _ (by omega) (by omega) (by omega) (by omega)

/-- The reference's result of the kernel's arguments is the kernel's result. -/
theorem total_eq_result (m : (ℓ : Loc Cert.KernelIdeal.nD Cert.KernelIdeal.τ Cert.KernelIdeal.sig) → Buf (Elt Ideal) ℓ)
    (c : Dev Cert.KernelIdeal.nD)
    (h : Cert.Pre_lattice.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = fun _ => 1#1) :
    Ref.total (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)) = result m c := by
  refine ext_result _ _ fun w i j d hw hi hj hd => ?_
  refine (Ref.at1_total _ _ _ _ _ _ _ (word_source _ _ _ _ _ _ _ _ h) (word_target _ _ _ _ _ _ _ _ h)
    (word_border _ _ _ _ _ _ _ _ h) w i j d hw hi hj hd).trans ?_
  exact (result_at m c w i j d hw hi hj hd).symm

end Lattice
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import proofs.«01_k».proof.Proof.Gen.ReferenceIdeal.Run
public import Idealize.ShloMosaic.Init
public import Idealize.ShloMosaic.Lib.Quiescent
public import proofs.«01_k».proof.Proof.Same

@[expose] public section

noncomputable section

namespace Cert.Proof

open Idealize.ShloMosaic Idealize.SL.Sem

/-- The kernel runs, leaves its arguments as they were and ends with every counter at zero. -/
theorem frame_kernel [Cert.Kernel.Facts] : Cert.quiescent_Kernel := fun m ρ _ => Cert.Kernel.Gen.frame m ρ

/-- So does the kernel over the extended reals. -/
theorem frame_kernelIdeal [Cert.KernelIdeal.Facts] : Cert.quiescent_KernelIdeal := fun m ρ _ => Cert.KernelIdeal.Gen.frame m ρ

/-- And on the lattice. -/
theorem frame_kernelIdeal_lattice [Cert.KernelIdeal.Facts] [Cert.Pre_lattice.Facts] : Cert.quiescent_KernelIdeal_pre_lattice :=
  fun m ρ _ => Cert.KernelIdeal.Gen.frame m ρ

/-- The reference runs and leaves its arguments as they were; it declares no semaphore. -/
theorem frame_reference [Cert.ReferenceIdeal.Facts] : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run m ρ)

/-- And on the lattice. -/
theorem frame_reference_lattice [Cert.ReferenceIdeal.Facts] [Cert.Pre_lattice.Facts] :
    Cert.quiescent_ReferenceIdeal_pre_lattice := fun m ρ _ => frame_reference m ρ trivial

/-- On the lattice the kernel and the reference end with the same result. -/
theorem same [Cert.KernelIdeal.Facts] [Cert.ReferenceIdeal.Facts] [Cert.Pre_lattice.Facts] :
    Cert.algebraic_KernelIdeal_ReferenceIdeal_pre_lattice := fun m ρ m' ρ' hpre hargs =>
  ⟨fun c => Lattice.result m c, Lattice.kernel_run m ρ,
    (θ_run Cert.ReferenceIdeal.defs _ _).mono
      (fun r h c => ⟨(h c).1.trans ((Lattice.Ref.result_eq m' c).trans (by
        obtain ⟨-, h1, h2, h3, h4, h5, h6, h7⟩ := hargs c
        rw [h1, h2, h3, h4, h5, h6, h7]
        exact Lattice.total_eq_result m c (hpre c))), (h c).2⟩)
      (Cert.ReferenceIdeal.Value.run m' ρ')⟩

/-- The claim. -/
theorem claim : Cert.Claim := ⟨Cert.Kernel.Gen.facts, Cert.KernelIdeal.Gen.facts, Cert.ReferenceIdeal.Gen.facts,
  Lattice.preFacts, frame_kernel, frame_kernelIdeal, frame_kernelIdeal_lattice, frame_reference, frame_reference_lattice,
  trivial, same⟩

end Cert.Proof

end
